-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![1, 1024, 8192]⟩ ⟨3, ![1, 2048, 8192]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S1x1024x8192 : Shape := ⟨3, ![1, 1024, 8192]⟩
abbrev S4096x256 : Shape := ⟨2, ![4096, 256]⟩
abbrev S1x1024x256 : Shape := ⟨3, ![1, 1024, 256]⟩
abbrev S2048x256 : Shape := ⟨2, ![2048, 256]⟩
abbrev S1024x256 : Shape := ⟨2, ![1024, 256]⟩
abbrev S2x1024x256 : Shape := ⟨3, ![2, 1024, 256]⟩
abbrev S_ : Shape := ⟨0, ![]⟩
abbrev S2 : Shape := ⟨1, ![2]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S2048x4096, .f32⟩
  | .hbm, ⟨3, _⟩ => ⟨S1x1024x8192, .f32⟩
  | .local _ .vmem, ⟨0, _⟩ => ⟨S2048x4096, .f32⟩
  | .local _ .vmem, ⟨1, _⟩ => ⟨S4096x256, .f32⟩
  | .local _ .vmem, ⟨2, _⟩ => ⟨S4096x256, .f32⟩
  | .local _ .vmem, ⟨3, _⟩ => ⟨S1x1024x256, .f32⟩
  | .local _ .vmem, ⟨4, _⟩ => ⟨S1x1024x256, .f32⟩
  | .local _ .vmem, ⟨5, _⟩ => ⟨S2048x256, .f32⟩
  | .local _ .vmem, ⟨6, _⟩ => ⟨S1024x256, .f32⟩
  | .local _ .vmem, ⟨7, _⟩ => ⟨S2x1024x256, .f32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 0

abbrev nD : Nat := 4
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_6 : BitVec 32 := 0#32
  let v13 : BitVec 1 := Scalar.cmpi .ne v12 c0_i32_6
  v13

def k0_dev1 (d1 : Dev nD) : Nat :=
  let c0_i32_36 : BitVec 32 := 0#32
  let v1 : BitVec 32 := Dev.word d1
  let c2_i32_1 : BitVec 32 := 2#32
  let v2 : BitVec 32 := Scalar.divsi v1 c2_i32_1
  let c2_i32_0 : BitVec 32 := 2#32
  let v3 : BitVec 32 := Scalar.remsi v2 c2_i32_0
  let c2_i32_35 : BitVec 32 := 2#32
  let v55 : BitVec 32 := Scalar.muli v3 c2_i32_35
  let v56 : BitVec 32 := Scalar.addi c0_i32_36 v55
  let c1_i32_3 : BitVec 32 := 1#32
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.subi c1_i32_3 v6
  let c1_i32_37 : BitVec 32 := 1#32
  let v57 : BitVec 32 := Scalar.muli v7 c1_i32_37
  let v58 : BitVec 32 := Scalar.addi v56 v57
  v58.toNat
def k0_off1 (d1 : Dev nD) : Fin 2 → Nat :=
  let c1_i32_4 : BitVec 32 := 1#32
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let v9 : BitVec 32 := Scalar.subi c1_i32_4 v6
  let c1024_i32_5 : BitVec 32 := 1024#32
  let v10 : BitVec 32 := Scalar.muli v9 c1024_i32_5
  let v22 : Index := Scalar.indexCast v10
  let c0_12 : Index := 0#32
  ![v22.toNat, 0]
def k0_off2 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_18 : BitVec 32 := 0#32
  let c0_i32_19 : BitVec 32 := 0#32
  ![v0.toNat, 0, 0]
def k0_dev2 (d1 : Dev nD) : Nat :=
  let c0_i32_16 : BitVec 32 := 0#32
  let v1 : BitVec 32 := Dev.word d1
  let c2_i32_1 : BitVec 32 := 2#32
  let v2 : BitVec 32 := Scalar.divsi v1 c2_i32_1
  let c2_i32_0 : BitVec 32 := 2#32
  let v3 : BitVec 32 := Scalar.remsi v2 c2_i32_0
  let c2_i32_15 : BitVec 32 := 2#32
  let v27 : BitVec 32 := Scalar.muli v3 c2_i32_15
  let v28 : BitVec 32 := Scalar.addi c0_i32_16 v27
  let c1_i32_3 : BitVec 32 := 1#32
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let v7 : BitVec 32 := Scalar.subi c1_i32_3 v6
  let c1_i32_17 : BitVec 32 := 1#32
  let v29 : BitVec 32 := Scalar.muli v7 c1_i32_17
  let v30 : BitVec 32 := Scalar.addi v28 v29
  v30.toNat
def k0_off4 (d1 : Dev nD) : Fin 2 → Nat :=
  let v4 : BitVec 32 := Dev.word d1
  let c1_i32 : BitVec 32 := 1#32
  let v5 : BitVec 32 := Scalar.divsi v4 c1_i32
  let c2_i32_2 : BitVec 32 := 2#32
  let v6 : BitVec 32 := Scalar.remsi v5 c2_i32_2
  let c1024_i32 : BitVec 32 := 1024#32
  let v8 : BitVec 32 := Scalar.muli v6 c1024_i32
  let v45 : Index := Scalar.indexCast v8
  let c0_28 : Index := 0#32
  ![v45.toNat, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v47 : Index := Scalar.indexCast v0
  let c0_29 : Index := 0#32
  let c0_30 : Index := 0#32
  ![v47.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
  How the two devices of a row share their work, as a schedule of rounds.

  The devices form a 2×2 mesh; device c sits at (c / 2, c % 2), and its partner `pr c` is the other device of its row.
  At each of the 32 steps a device copies half of its partial product into one of the partner's two landing slots
  (step t uses slot t % 2), waits until its own buffer has been read, and waits for the partner's copy.

  * The barrier cell has one round: the partner's unit brings the partner's slot 0.
  * The send cell has 32 rounds, one a step: each brings the send buffer back.
  * Each of the two receive cells has 16 rounds: step t is round t / 2 of receive cell t % 2. A round brings the own
    slot, holding what the partner sent, and with it the partner's slot for the NEXT step. The latter is the reason why
    two slots suffice: the partner starts copying block t only after it has read block t - 1.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.VecWindow

@[expose] public section

noncomputable section

namespace Cert.OProj

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Two copies of the rounds' ghost state: the pipeline's own, and the exchange's. -/
abbrev UU : Type := UR sig nD τ × UR sig nD τ

local notation "𝕄" => MT nD τ sig ℕ (Elt F) ℕ UU ℕ

abbrev EP : Emb (UR sig nD τ) (MT nD τ sig ℕ (Elt F) ℕ UU ℕ) := embL
abbrev ER : Emb (UR sig nD τ) (MT nD τ sig ℕ (Elt F) ℕ UU ℕ) := embR

/-! ## The partner -/

/-- The other device of `c`'s row. -/
def pr (c : Dev nD) : Dev nD := ⟨2 * (c.val / 2) + 1 - c.val % 2, by have h : c.val < 4 := c.isLt; show _ < 4; omega⟩
theorem pr_pr (c : Dev nD) : pr (pr c) = c := by revert c; decide
theorem pr_ne (c : Dev nD) : pr c ≠ c := by revert c; decide

theorem dev1_pr (c : Dev nD) (h : k0_dev1 c < nD) : (⟨k0_dev1 c, h⟩ : Dev nD) = pr c := by
  apply Fin.ext; show k0_dev1 c = 2 * (c.val / 2) + 1 - c.val % 2
  rw [k0_dev1_eq]
theorem dev2_pr (c : Dev nD) (h : k0_dev2 c < nD) : (⟨k0_dev2 c, h⟩ : Dev nD) = pr c := by
  apply Fin.ext; show k0_dev2 c = 2 * (c.val / 2) + 1 - c.val % 2
  rw [k0_dev2_eq]

/-! ## Slots and semaphores -/

/-- The slot step `t` uses. -/
def par (t : ℕ) : Fin 2 := ⟨t % 2, Nat.mod_lt _ (by decide)⟩
theorem par_add_two (t : ℕ) : par (t + 2) = par t := Fin.ext (Nat.add_mod_right t 2)
theorem par_zero : par 0 = 0 := rfl
theorem par_one : par 1 = 1 := rfl

theorem slot_inb (p : Fin 2) (a : Fin 3) : (![p.val, 0, 0] : Fin 3 → ℕ) a + S1x1024x256.size a ≤ S2x1024x256.size a := by
  revert p a; decide
theorem rcv_inb (p : Fin 2) (a : Fin 1) : (![p.val] : Fin 1 → ℕ) a + S1.size a ≤ S2.size a := by
  revert p a; decide

abbrev accM : Memref sig .tc .vmem S2048x256 .f32 := Memref.whole cc0_scratch0
abbrev sndM : Memref sig .tc .vmem S1024x256 .f32 := Memref.whole cc0_scratch1
abbrev lndM : Memref sig .tc .vmem S2x1024x256 .f32 := Memref.whole cc0_scratch2

/-- The rectangle of slot `p` in the landing buffer. -/
abbrev slotR (p : Fin 2) : Rect S2x1024x256 := Rect.unit (s := S2x1024x256) ![p.val, 0, 0] S1x1024x256.size (slot_inb p)

/-- Slot `p` of the landing buffer. -/
abbrev slotM (p : Fin 2) : Memref sig .tc .vmem S1024x256 .f32 :=
  (lndM.slice (slotR p) (fun _ => rfl)).squeeze S1024x256 squeezes_S1x1024x256_S1024x256

/-- Receive semaphore `p`. -/
abbrev rcvS (p : Fin 2) : DmaSem sig :=
  ((cc0_scratch4.slice (Rect.unit (s := S2) ![p.val] S1.size (rcv_inb p))).squeeze S_ squeezes_S1_S_).sem
abbrev sndS : DmaSem sig := cc0_scratch3.sem
abbrev barS : Sem sig := (SemArray.scalar (sig.barrier 0 rfl) : Sems sig S_).sem

theorem slot_of_off (off : Fin 3 → ℕ) (p : Fin 2) (h : off = ![p.val, 0, 0]) (inb hs) :
    (lndM.slice (Rect.unit (s := S2x1024x256) off S1x1024x256.size inb) hs).squeeze S1024x256 squeezes_S1x1024x256_S1024x256 = slotM p := by
  subst h; rfl
theorem rcv_of_off (off : Fin 1 → ℕ) (p : Fin 2) (h : off = ![p.val]) (inb) :
    ((cc0_scratch4.slice (Rect.unit (s := S2) off S1.size inb)).squeeze S_ squeezes_S1_S_).sem = rcvS p := by
  subst h; rfl

theorem off2_par (i : grid0.Coords) (t : ℕ) (h : (i 0).val = t) : k0_off2 i = ![(par t).val] := by rw [k0_off2_eq, h]; rfl
theorem off3_par (i : grid0.Coords) (t : ℕ) (h : (i 0).val = t) : k0_off3 i = ![(par t).val, 0, 0] := by rw [k0_off3_eq, h]; rfl
theorem off5_par (i : grid0.Coords) (t : ℕ) (h : (i 0).val = t) : k0_off5 i = ![(par t).val, 0, 0] := by rw [k0_off5_eq, h]; rfl

/-! ## Cells -/

abbrev barC (c : Dev nD) : GSem nD τ sig := ((c : Thread nD τ), .reg barS)
abbrev sndC (c : Dev nD) : GSem nD τ sig := ((c : Thread nD τ), .dma sndS)
abbrev rcvC (c : Dev nD) (p : Fin 2) : GSem nD τ sig := ((c : Thread nD τ), .dma (rcvS p))

theorem snd_ne_bar : (SemLoc.dma sndS : SemLoc sig) ≠ .reg barS := fun h => by cases h
theorem rcv_ne_bar (p : Fin 2) : (SemLoc.dma (rcvS p) : SemLoc sig) ≠ .reg barS := fun h => by cases h
theorem snd_ne_rcv (p : Fin 2) : (SemLoc.dma sndS : SemLoc sig) ≠ .dma (rcvS p) := by revert p; decide
theorem rcv1_ne_rcv0 : (SemLoc.dma (rcvS 1) : SemLoc sig) ≠ .dma (rcvS 0) := by decide

/-- What one copy adds to a semaphore. -/
abbrev N : ℕ := (sndM : Memref sig .tc .vmem S1024x256 .f32).view.dmaCredit
theorem N_pos : 0 < N := View.dmaCredit_pos _ (by decide)

/-! ## Points-tos -/

/-- Device `c`'s slot `p`, at contents `f` of the landing buffer. -/
abbrev slotPts (c : Dev nD) (p : Fin 2) (f : Buf (Elt F) ((slotM p).view.loc (c : Thread nD τ))) : sProp 𝕄 :=
  (slotM p).view.loc (c : Thread nD τ) ↦[(slotM p).view.set]{fullShare} f
abbrev slotAny (c : Dev nD) (p : Fin 2) : sProp 𝕄 := iprop(∃ f, slotPts c p f)
abbrev sndPts (c : Dev nD) (f : Buf (Elt F) ((sndM : Memref sig .tc .vmem S1024x256 .f32).view.loc (c : Thread nD τ))) : sProp 𝕄 :=
  (sndM : Memref sig .tc .vmem S1024x256 .f32).view.loc (c : Thread nD τ) ↦[(sndM : Memref sig .tc .vmem S1024x256 .f32).view.set]{fullShare} f
abbrev accPts (c : Dev nD) (f : Buf (Elt F) ((accM : Memref sig .tc .vmem S2048x256 .f32).view.loc (c : Thread nD τ))) : sProp 𝕄 :=
  (accM : Memref sig .tc .vmem S2048x256 .f32).view.loc (c : Thread nD τ) ↦[(accM : Memref sig .tc .vmem S2048x256 .f32).view.set]{fullShare} f

/-! ## The schedule -/

/-- What a device sends: per device and step, one block. -/
abbrev Sent (F : FTy → Type) : Type := Dev nD → ℕ → (S1024x256.Idx → Elt F .f32)

variable (X : Sent F)

def barPay (c : Dev nD) : sProp 𝕄 := iprop(slotAny (F := F) (pr c) 0 ∗ reached ER (rcvC (pr c) 0) 0)
def sndPay (c : Dev nD) : sProp 𝕄 := iprop(∃ f, sndPts (F := F) c f)
/-- Device `d`'s slot for step `t`, to be written by its partner. -/
def grant (d : Dev nD) (t : ℕ) : sProp 𝕄 :=
  if t < 32 then iprop(slotAny (F := F) d (par t) ∗ reached ER (rcvC d (par t)) (t / 2)) else iprop(emp)
def rcvPay (c : Dev nD) (t : ℕ) : sProp 𝕄 :=
  iprop(owns (c : Thread nD τ) (slotM (par t)) fullShare (X (pr c) t) ∗ grant (F := F) (pr c) (t + 1))

instance grant_storable (d : Dev nD) (t : ℕ) : BI.Storable (upEmb : UEmb _ 𝕄) (grant (F := F) d t) := by
  unfold grant; split <;> infer_instance

def duty (g : GSem nD τ sig) (r : ℕ) : Prop :=
  g.1.2 = .tc ∧ (g.2 = .reg barS ∧ r = 0 ∨ g.2 = .dma sndS ∧ r < 32 ∨ (g.2 = .dma (rcvS 0) ∨ g.2 = .dma (rcvS 1)) ∧ r < 16)
instance (g : GSem nD τ sig) (r : ℕ) : Decidable (duty g r) := by unfold duty; infer_instance

def Rd : Rounds.Schedule (GSem nD τ sig) Unit 𝕄 where
  duties g r := if duty g r then {()} else ∅
  unitless _ := False
  amount g _ _ := if g.2 = .reg barS then 1 else N
  payload g r _ :=
    if g.2 = .reg barS then barPay (F := F) g.1.1
    else if g.2 = .dma sndS then sndPay (F := F) g.1.1
    else if g.2 = .dma (rcvS 0) then rcvPay X g.1.1 (2 * r)
    else if g.2 = .dma (rcvS 1) then rcvPay X g.1.1 (2 * r + 1)
    else iprop(emp)
  amount_pos g _ _ _ := by
    by_cases h : g.2 = .reg barS
    · rw [if_pos h]; exact Nat.one_pos
    · rw [if_neg h]; exact N_pos

instance Rd_storable (g : GSem nD τ sig) (r : ℕ) (d : Unit) : BI.Storable (upEmb : UEmb _ 𝕄) ((Rd X).payload g r d) := by
  show BI.Storable upEmb (if g.2 = .reg barS then barPay (F := F) g.1.1
    else if g.2 = .dma sndS then sndPay (F := F) g.1.1
    else if g.2 = .dma (rcvS 0) then rcvPay X g.1.1 (2 * r)
    else if g.2 = .dma (rcvS 1) then rcvPay X g.1.1 (2 * r + 1)
    else iprop(emp))
  unfold barPay sndPay rcvPay
  (repeat' split) <;> infer_instance

section Sched

variable (c : Dev nD)

theorem duties_of {g : GSem nD τ sig} {r : ℕ} (h : duty g r) : (Rd X).duties g r = {()} := by dsimp only [Rd]; exact if_pos h
theorem duties_not {g : GSem nD τ sig} {r : ℕ} (h : ¬ duty g r) : (Rd X).duties g r = ∅ := by dsimp only [Rd]; exact if_neg h

theorem duty_bar : duty (barC c) 0 := ⟨rfl, .inl ⟨rfl, rfl⟩⟩
theorem duty_snd {t : ℕ} (h : t < 32) : duty (sndC c) t := ⟨rfl, .inr (.inl ⟨rfl, h⟩)⟩
theorem par_cases (t : ℕ) : (par t = 0 ∧ 2 * (t / 2) = t) ∨ (par t = 1 ∧ 2 * (t / 2) + 1 = t) := by
  rcases Nat.mod_two_eq_zero_or_one t with h | h
  · exact .inl ⟨Fin.ext h, by omega⟩
  · exact .inr ⟨Fin.ext h, by omega⟩
theorem duty_rcv {t : ℕ} (h : t < 32) : duty (rcvC c (par t)) (t / 2) := by
  refine ⟨rfl, .inr (.inr ⟨?_, by omega⟩)⟩
  rcases par_cases t with ⟨h, _⟩ | ⟨h, _⟩
  · left; show SemLoc.dma (rcvS (par t)) = _; rw [h]
  · right; show SemLoc.dma (rcvS (par t)) = _; rw [h]

theorem duties_bar_ge (r : ℕ) (h : 1 ≤ r) : (Rd X).duties (barC c) r = ∅ :=
  duties_not X (by rintro ⟨-, ⟨-, h'⟩ | ⟨h', -⟩ | ⟨h' | h', -⟩⟩; · omega
                   · exact snd_ne_bar h'.symm
                   · exact rcv_ne_bar _ h'.symm
                   · exact rcv_ne_bar _ h'.symm)
theorem duties_snd_ge (r : ℕ) (h : 32 ≤ r) : (Rd X).duties (sndC c) r = ∅ :=
  duties_not X (by rintro ⟨-, ⟨h', -⟩ | ⟨-, h'⟩ | ⟨-, h'⟩⟩
                   · exact snd_ne_bar h'
                   · omega
                   · omega)
theorem duties_rcv_ge (p : Fin 2) (r : ℕ) (h : 16 ≤ r) : (Rd X).duties (rcvC c p) r = ∅ :=
  duties_not X (by rintro ⟨-, ⟨h', -⟩ | ⟨h', -⟩ | ⟨-, h'⟩⟩
                   · exact rcv_ne_bar _ h'
                   · exact snd_ne_rcv _ h'.symm
                   · omega)

theorem amount_bar (r : ℕ) (u : Unit) : (Rd X).amount (barC c) r u = 1 := by dsimp only [Rd]; exact if_pos rfl
theorem amount_snd (r : ℕ) (u : Unit) : (Rd X).amount (sndC c) r u = N := by dsimp only [Rd]; exact if_neg snd_ne_bar
theorem amount_rcv (p : Fin 2) (r : ℕ) (u : Unit) : (Rd X).amount (rcvC c p) r u = N := by dsimp only [Rd]; exact if_neg (rcv_ne_bar p)

theorem payload_bar (r : ℕ) (u : Unit) : (Rd X).payload (barC c) r u = barPay c := by dsimp only [Rd]; exact if_pos rfl
theorem payload_snd (r : ℕ) (u : Unit) : (Rd X).payload (sndC c) r u = sndPay c := by
  dsimp only [Rd]; rw [if_neg snd_ne_bar, if_pos rfl]
theorem payload_rcv (t : ℕ) (u : Unit) : (Rd X).payload (rcvC c (par t)) (t / 2) u = rcvPay X c t := by
  dsimp only [Rd]
  rw [if_neg (rcv_ne_bar _), if_neg (snd_ne_rcv _).symm]
  rcases par_cases t with ⟨h, h2⟩ | ⟨h, h2⟩
  · rw [h, if_pos rfl, h2]
  · rw [h, if_neg rcv1_ne_rcv0, if_pos rfl, h2]

theorem expect_bar : (Rd X).expect (barC c) 0 = 1 := by
  unfold Schedule.expect Schedule.amountOf; rw [duties_of X (duty_bar c), Finset.sum_singleton, amount_bar]
theorem expect_snd {t : ℕ} (h : t < 32) : (Rd X).expect (sndC c) t = N := by
  unfold Schedule.expect Schedule.amountOf; rw [duties_of X (duty_snd c h), Finset.sum_singleton, amount_snd]
theorem expect_rcv {t : ℕ} (h : t < 32) : (Rd X).expect (rcvC c (par t)) (t / 2) = N := by
  unfold Schedule.expect Schedule.amountOf; rw [duties_of X (duty_rcv c h), Finset.sum_singleton, amount_rcv]

theorem rest_bar : bigSep ((Rd X).duties (barC c) 0 \ ∅) (fun u => (Rd X).payload (barC c) 0 u) = barPay c := by
  rw [Finset.sdiff_empty, duties_of X (duty_bar c), bigSep_singleton, payload_bar]
theorem rest_snd {t : ℕ} (h : t < 32) : bigSep ((Rd X).duties (sndC c) t \ ∅) (fun u => (Rd X).payload (sndC c) t u) = sndPay c := by
  rw [Finset.sdiff_empty, duties_of X (duty_snd c h), bigSep_singleton, payload_snd]
theorem rest_rcv {t : ℕ} (h : t < 32) :
    bigSep ((Rd X).duties (rcvC c (par t)) (t / 2) \ ∅) (fun u => (Rd X).payload (rcvC c (par t)) (t / 2) u) = rcvPay X c t := by
  rw [Finset.sdiff_empty, duties_of X (duty_rcv c h), bigSep_singleton, payload_rcv]

theorem close_bar (κ : ℕ) : iprop(cellInv ER (Rd X) κ (barC c) ∗ atPos ER (barC c) 1 ∅ 0) ⊢ (|={Set.univ}=> semVal (barC c) 0 : sProp 𝕄) :=
  Rounds.cell_close ER (Rd X) (Set.mem_univ κ) id (duties_bar_ge X c)
theorem close_snd (κ : ℕ) : iprop(cellInv ER (Rd X) κ (sndC c) ∗ atPos ER (sndC c) 32 ∅ 0) ⊢ (|={Set.univ}=> semVal (sndC c) 0 : sProp 𝕄) :=
  Rounds.cell_close ER (Rd X) (Set.mem_univ κ) id (duties_snd_ge X c)
theorem close_rcv (p : Fin 2) (κ : ℕ) :
    iprop(cellInv ER (Rd X) κ (rcvC c p) ∗ atPos ER (rcvC c p) 16 ∅ 0) ⊢ (|={Set.univ}=> semVal (rcvC c p) 0 : sProp 𝕄) :=
  Rounds.cell_close ER (Rd X) (Set.mem_univ κ) id (duties_rcv_ge X c p)

end Sched

/-! ## What a device owes, and the levels -/

/-- The copies device `c` still has to make from step `t` on, each a credit on the partner's receive cell, indexed by its step. -/
def OT (c : Dev nD) (t : ℕ) : CellTallies nD τ sig ℕ := ∑ s ∈ Finset.Ico t 32, tallyAt (rcvC (pr c) (par s)) s N
theorem Ico_step {t : ℕ} (h : t < 32) : Finset.Ico t 32 = insert t (Finset.Ico (t + 1) 32) := by
  ext a; simp only [Finset.mem_insert, Finset.mem_Ico]; omega
theorem not_mem_Ico_step (t : ℕ) : t ∉ Finset.Ico (t + 1) 32 := by simp only [Finset.mem_Ico]; omega
theorem OT_step (c : Dev nD) {t : ℕ} (h : t < 32) : OT c t = OT c (t + 1) + tallyAt (rcvC (pr c) (par t)) t N := by
  unfold OT
  rw [Ico_step h, Finset.sum_insert (not_mem_Ico_step t), add_comm]
theorem OT_end (c : Dev nD) : OT c 32 = 0 := by unfold OT; rw [Finset.Ico_self, Finset.sum_empty]

/-- At launch: all copies, and the barrier unit. -/
def O₀ (c : Dev nD) : CellTallies nD τ sig ℕ := OT c 0 + tallyAt (barC (pr c)) 0 1

def L (g : GSem nD τ sig) : Finset ℕ := if g.1.2 = .tc then Finset.range 32 else ∅
/-- Barrier cells at 1; step t's receive at 2 + t; everything else at 0. -/
def lv (g : GSem nD τ sig) (i : ℕ) : ℕ :=
  if g.2 = .reg barS then 1 else if g.2 = .dma (rcvS 0) ∨ g.2 = .dma (rcvS 1) then 2 + i else 0

theorem L_of_ne (g : GSem nD τ sig) (h : g.1.2 ≠ .tc) : L g = ∅ := if_neg h
theorem L_tc (c : Dev nD) (sm : SemLoc sig) : L ((c : Thread nD τ), sm) = Finset.range 32 := if_pos rfl
theorem lv_bar (c : Dev nD) (i : ℕ) : lv (barC c) i = 1 := if_pos rfl
theorem lv_snd (c : Dev nD) (i : ℕ) : lv (sndC c) i = 0 := by
  unfold lv
  rw [if_neg snd_ne_bar, if_neg (by rintro (h | h) <;> exact snd_ne_rcv _ h)]
theorem rcv_cases (p : Fin 2) : (SemLoc.dma (rcvS p) : SemLoc sig) = .dma (rcvS 0) ∨ (SemLoc.dma (rcvS p) : SemLoc sig) = .dma (rcvS 1) := by
  revert p; decide
theorem lv_rcv (c : Dev nD) (p : Fin 2) (i : ℕ) : lv (rcvC c p) i = 2 + i := by
  unfold lv
  rw [if_neg (rcv_ne_bar p), if_pos (rcv_cases p)]

theorem OT_pos {c : Dev nD} {t : ℕ} {g : GSem nD τ sig} {i : ℕ} (h : 0 < OT c t g i) :
    g = rcvC (pr c) (par i) ∧ t ≤ i ∧ i < 32 := by
  unfold OT at h
  rw [Finset.sum_apply, Finsupp.finsetSum_apply] at h
  obtain ⟨s, hs, hp⟩ := Finset.exists_ne_zero_of_sum_ne_zero (Nat.pos_iff_ne_zero.mp h)
  obtain ⟨hg, hi⟩ := Pipeline.tallyAt_pos (Nat.pos_of_ne_zero hp)
  rw [Finset.mem_Ico] at hs
  subst hi
  exact ⟨hg, hs.1, hs.2⟩

/-- While the copies from step `t` on are owed, a wait below level `2 + t` is allowed. -/
theorem mayWait_of (c : Dev nD) (sm : SemLoc sig) (i t : ℕ) (hi : i < 32) (hl : lv ((c : Thread nD τ), sm) i < 2 + t) :
    (levAts L lv : sProp 𝕄) ⊢ MayWait (c : Thread nD τ) sm i (OT c t) :=
  MayOwe.of_cut (L := L) (lev := lv) (1 + t)
    (fun p hp => by rw [Finset.mem_singleton.mp hp, L_tc]; exact Finset.mem_range.mpr hi)
    (fun g u hg => by obtain ⟨rfl, -, h⟩ := OT_pos hg; rw [L_tc]; exact Finset.mem_range.mpr h)
    (fun p hp => by rw [Finset.mem_singleton.mp hp]; show lv ((c : Thread nD τ), sm) i ≤ _; omega)
    (fun g u hg => by obtain ⟨rfl, h, -⟩ := OT_pos hg; rw [lv_rcv]; omega)

/-! ## The invariants a device opens -/

def invs (K : GSem nD τ sig → ℕ) (c : Dev nD) : sProp 𝕄 :=
  iprop(cellInv ER (Rd X) (K (barC c)) (barC c) ∗ cellInv ER (Rd X) (K (sndC c)) (sndC c)
    ∗ cellInv ER (Rd X) (K (rcvC c 0)) (rcvC c 0) ∗ cellInv ER (Rd X) (K (rcvC c 1)) (rcvC c 1)
    ∗ cellInv ER (Rd X) (K (barC (pr c))) (barC (pr c))
    ∗ cellInv ER (Rd X) (K (rcvC (pr c) 0)) (rcvC (pr c) 0) ∗ cellInv ER (Rd X) (K (rcvC (pr c) 1)) (rcvC (pr c) 1))

instance invs_persistent (K : GSem nD τ sig → ℕ) (c : Dev nD) : BI.Persistent (invs X K c) := by unfold invs; infer_instance

theorem invs_send (K : GSem nD τ sig → ℕ) (c : Dev nD) : invs X K c ⊢ cellInv ER (Rd X) (K (sndC c)) (sndC c) := by
  unfold invs; iintro ⟨-, H, -⟩; iexact H
theorem invs_own (K : GSem nD τ sig → ℕ) (c : Dev nD) (p : Fin 2) : invs X K c ⊢ cellInv ER (Rd X) (K (rcvC c p)) (rcvC c p) := by
  unfold invs
  match p with
  | 0 => iintro ⟨-, -, H, -⟩; iexact H
  | 1 => iintro ⟨-, -, -, H, -⟩; iexact H
theorem invs_partner (K : GSem nD τ sig → ℕ) (c : Dev nD) (p : Fin 2) :
    invs X K c ⊢ cellInv ER (Rd X) (K (rcvC (pr c) p)) (rcvC (pr c) p) := by
  unfold invs
  match p with
  | 0 => iintro ⟨-, -, -, -, -, H, -⟩; iexact H
  | 1 => iintro ⟨-, -, -, -, -, -, H⟩; iexact H

end Cert.OProj

end
-- ==== Proof.Step.lean ====
/-
  One grid step of the kernel, at any device and any step: what it needs, what it leaves.

  `mid K c t` is what device c holds between steps (before step t); `ready K c t` is the same with the barrier handshake
  still to come before step 0. `step_run` carries `ready K c t` to `mid K c (t + 1)`.
-/
module

public import proofs.«01_k».proof.Proof.Protocol

@[expose] public section

noncomputable section

namespace Cert.OProj

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (X : Sent F)

abbrev 𝒱₀ : Variants := Variants.none

/-! ## The values of a step -/

/-- The rows of the partial product a device sends away. -/
def sentOf (c : Dev nD) (A : S2048x4096.Idx → Elt F .f32) (B : S4096x256.Idx → Elt F .f32) : S1024x256.Idx → Elt F .f32 :=
  k0_pay3 ((accM : Memref sig .tc .vmem S2048x256 .f32).view.readAt (Elt F)
    (Rect.unit (s := S2048x256) (k0_off1 c) S1024x256.size (k0_off1_inb c)).toLoadRect (k0_pay2 A B))
/-- The rows it keeps. -/
def keptOf (c : Dev nD) (A : S2048x4096.Idx → Elt F .f32) (B : S4096x256.Idx → Elt F .f32) : S1024x256.Idx → Elt F .f32 :=
  (accM : Memref sig .tc .vmem S2048x256 .f32).view.readAt (Elt F)
    (Rect.unit (s := S2048x256) (k0_off4 c) S1024x256.size (k0_off4_inb c)).toLoadRect (k0_pay2 A B)
/-- The block it writes: the kept rows plus the partner's block `Y`. -/
def outOf (c : Dev nD) (A : S2048x4096.Idx → Elt F .f32) (B : S4096x256.Idx → Elt F .f32) (Y : S1024x256.Idx → Elt F .f32) :
    S1x1024x256.Idx → Elt F .f32 :=
  shapeCast S1x1024x256 (addf (keptOf c A B : FVec F S1024x256 .f32) Y) shapeCasts_S1024x256_S1x1024x256

/-! ## Views -/

section Views

variable {κ : Kind} {sp : Space} {s : Shape} {e : EltTy} {Val : EltTy → Type}

/-- A store of the view's own sizes is read back whole. -/
theorem read_store_full (v : View sig κ sp s e) (f : v.ty.Contents Val) {off : Fin s.rank → ℕ} (inb : ∀ a, off a + s.size a ≤ s.size a)
    (w : s.Idx → Val e) : v.read Val ((v.slice (Rect.unit off s.size inb)).write Val f w Finset.univ) = w := by
  have h := View.read_write_univ (v := v.slice (Rect.unit off s.size inb)) (Val := Val) f w
  refine (Eq.trans ?_ h)
  funext y
  refine congrArg (v.read Val ((v.slice (Rect.unit off s.size inb)).write Val f w Finset.univ)) (funext fun a => Fin.ext ?_)
  show (y a).val = off a + 1 * (y a).val
  have := inb a; omega

end Views

theorem set_acc : (accM : Memref sig .tc .vmem S2048x256 .f32).view.set = Finset.univ := View.set_whole _
theorem set_snd : (sndM : Memref sig .tc .vmem S1024x256 .f32).view.set = Finset.univ := View.set_whole _

theorem set_slot (p : Fin 2) : (slotM p).view.set = (lndM : Memref sig .tc .vmem S2x1024x256 .f32).view.setOn (slotR p).set := by
  show ((lndM.view.slice (slotR p)).reshape _ _).set = _
  rw [View.set_reshape, View.set_slice]
  rfl

/-- What the loaded slot holds, cast to the block's shape, is what the slot's memref reads. -/
theorem slot_load (p : Fin 2) (f : (cc0_scratch2 : Ref sig .tc).ty.Contents (Elt F)) :
    (shapeCast S1024x256 ((lndM : Memref sig .tc .vmem S2x1024x256 .f32).view.readAt (Elt F) (slotR p).toLoadRect f
        : Vec F S1x1024x256 .f32) shapeCasts_S1x1024x256_S1024x256 : Vec F S1024x256 .f32)
      = (slotM p).view.read (Elt F) f := rfl

/-! ## What a device holds between steps -/

abbrev accAny (c : Dev nD) : sProp 𝕄 := iprop(∃ f, accPts (F := F) c f)
abbrev sndAny (c : Dev nD) : sProp 𝕄 := iprop(∃ f, sndPts (F := F) c f)

/-- Step `t`'s tokens: the two duties its copy pays, and the credit for its receive. -/
def tok (c : Dev nD) (t : ℕ) : sProp 𝕄 :=
  iprop(dutyTok ER (sndC c) t () ∗ dutyTok ER (rcvC (pr c) (par t)) (t / 2) () ∗ cred (tallyAt (rcvC c (par t)) t N))
def toks (c : Dev nD) (t : ℕ) : sProp 𝕄 := bigSep (Finset.Ico t 32) (tok (F := F) c)

theorem toks_step (c : Dev nD) {t : ℕ} (h : t < 32) : toks (F := F) c t = iprop(tok c t ∗ toks c (t + 1)) := by
  unfold toks; rw [Ico_step h, bigSep_insert (not_mem_Ico_step t)]; rfl

/-- The own slot of step `t`, when no copy is to come into it. -/
def keep (c : Dev nD) (t : ℕ) : sProp 𝕄 := if t < 32 then iprop(emp) else slotAny (F := F) c (par t)

theorem slot_split (c : Dev nD) (t : ℕ) :
    iprop(slotAny (F := F) c (par t) ∗ reached ER (rcvC c (par t)) (t / 2)) ⊢ iprop(grant c t ∗ keep (F := F) c t) := by
  unfold grant keep
  split
  · iintro ⟨H, R⟩; isplitl
    · isplitl [H]; · iexact H
      iexact R
    · iempintro
  · iintro ⟨H, -⟩; isplitr
    · iempintro
    · iexact H

/-- The positions and buffers that every step has and gives back, before step `t`. -/
def base (c : Dev nD) (t : ℕ) : sProp 𝕄 :=
  iprop(atPos ER (sndC c) t ∅ 0 ∗ reached ER (sndC c) t
    ∗ atPos ER (rcvC c (par t)) (t / 2) ∅ 0
    ∗ atPos ER (rcvC c (par (t + 1))) ((t + 1) / 2) ∅ 0 ∗ reached ER (rcvC c (par (t + 1))) ((t + 1) / 2)
    ∗ slotAny (F := F) c (par (t + 1))
    ∗ accAny (F := F) c ∗ sndAny (F := F) c ∗ toks (F := F) c t)

def mid (c : Dev nD) (t : ℕ) : sProp 𝕄 :=
  iprop(base (F := F) c t ∗ atPos ER (barC c) 1 ∅ 0 ∗ grant (F := F) (pr c) t ∗ keep (F := F) c t)

/-- Before the handshake: the own slot 0 and its receive cell's round, to be handed over; the barrier's tokens. -/
def shake (c : Dev nD) : sProp 𝕄 :=
  iprop(slotAny (F := F) c 0 ∗ reached ER (rcvC c 0) 0 ∗ atPos ER (barC c) 0 ∅ 0
    ∗ reached ER (barC (pr c)) 0 ∗ dutyTok ER (barC (pr c)) 0 () ∗ cred (tallyAt (barC c) 0 1))

def ready (c : Dev nD) (t : ℕ) : sProp 𝕄 := if t = 0 then iprop(base (F := F) c 0 ∗ shake (F := F) c) else mid (F := F) c t

/-- What is owed before step `t`. -/
def owedAt (c : Dev nD) (t : ℕ) : CellTallies nD τ sig ℕ := if t = 0 then O₀ c else OT c t

/-! ## The rules of a step, at the program's own names -/

/-- The partner's name, the slot and the semaphore, each given by an equation. -/
theorem wp_signal_partner (K : GSem nD τ sig → ℕ) (c n : Dev nD) (hn : n = pr c) (W : Waits sig ℕ)
    {α : Type} {Q : α → sProp 𝕄} {k : PUnit → Prog (TpuEff nD τ sig (Elt F) Λ₀ .tc) α} :
    iprop(cellInv ER (Rd X) (K (barC (pr c))) (barC (pr c)) ∗ owes (c : Thread nD τ) (O₀ c) W ∗ dutyTok ER (barC (pr c)) 0 ()
        ∗ barPay (F := F) (pr c) ∗ reached ER (barC (pr c)) 0)
      ⊢ iprop((owes (c : Thread nD τ) (OT c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS 1) k) Q) := by
  subst hn
  rw [← payload_bar X (pr c) 0 ()]
  exact Rounds.wp_signal 𝒱₀ ER (Rd X) (c : Thread nD τ) none (dst := (pr c : Thread nD τ)) (sem := barS) (r := 0) (d := ())
    (κ := K (barC (pr c))) (by rw [duties_of X (duty_bar _)]; exact Finset.mem_singleton_self _) (amount_bar X (pr c) 0 ()) 0
    (OT c 0) (O₀ := O₀ c) rfl

theorem wp_send_partner (K : GSem nD τ sig → ℕ) (c n : Dev nD) (hn : n = pr c) (t : ℕ) (ht : t < 32)
    (D : Memref sig .tc .vmem S1024x256 .f32) (hD : D = slotM (par t)) (R : DmaSem sig) (hR : R = rcvS (par t))
    {hsc : (D : Memref sig (Dev.tc n : Thread nD τ).2.kind .vmem S1024x256 .f32).view.ref.isScScratch = false}
    {hsrc : (sndM : Memref sig .tc .vmem S1024x256 .f32).view.WordExact} {hdst : D.view.WordExact}
    {hsem : DmaTarget.Typed .vmem (.dma R) (.remote (Dev.tc n : Thread nD τ) (D : Memref sig .tc .vmem S1024x256 .f32) (.dma sndS) hsc)}
    {α : Type} {Q : α → sProp 𝕄} {k : PUnit → Prog (TpuEff nD τ sig (Elt F) Λ₀ .tc) α} (W : Waits sig ℕ)
    (f : (cc0_scratch1 : Ref sig .tc).ty.Contents (Elt F)) (hf : f = X c t) :
    iprop(cellInv ER (Rd X) (K (sndC c)) (sndC c) ∗ cellInv ER (Rd X) (K (rcvC (pr c) (par t))) (rcvC (pr c) (par t))
        ∗ sndPts c f ∗ grant (F := F) (pr c) t ∗ grant (F := F) c (t + 1)
        ∗ owes (c : Thread nD τ) (OT c t) W
        ∗ dutyTok ER (sndC c) t () ∗ reached ER (sndC c) t ∗ dutyTok ER (rcvC (pr c) (par t)) (t / 2) ())
      ⊢ iprop(((cred (tallyAt (sndC c) 0 N) ∗ owes (c : Thread nD τ) (OT c (t + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sndM (.remote (Dev.tc n : Thread nD τ) D (.dma sndS) hsc) (.dma R) hsrc hdst hsem) k) Q) := by
  subst hn hD hR hf
  rw [show grant (F := F) (pr c) t = iprop(slotAny (F := F) (pr c) (par t) ∗ reached ER (rcvC (pr c) (par t)) (t / 2)) from if_pos ht]
  iintro ⟨I1, I2, Hs, ⟨⟨%fd, Hd⟩, Hr⟩, HF, HO, T1, R1, T2⟩
  iintro Hk
  iapply (Rounds.wp_send_pointsTo_with 𝒱₀ ER (Rd X) (c : Thread nD τ) none (κ₁ := K (sndC c)) (κ₂ := K (rcvC (pr c) (par t)))
    (r₁ := t) (r₂ := t / 2) (d₁ := ()) (d₂ := ()) (fd := fd) (F := grant (F := F) c (t + 1)) (fs := X c t)
    (by rw [duties_of X (duty_snd c ht)]; exact Finset.mem_singleton_self _) (by rw [duties_of X (duty_rcv _ ht)]; exact Finset.mem_singleton_self _)
    t 0 N rfl (amount_snd X c t ()) (amount_rcv X (pr c) (par t) (t / 2) ()) (OT c (t + 1)) (OT_step c ht) (W := W)
    (by rw [payload_snd]; unfold sndPay; iintro H; iexists _; iexact H)
    (by
      rw [payload_rcv]; unfold rcvPay; rw [pr_pr]
      iintro ⟨H, G⟩
      isplitl [H]
      · ihave H' := (owns_intro (pr c : Thread nD τ) (slotM (par t)) fullShare _) $$ H
        rw [View.read_write_univ]
        iexact H'
      · iexact G)) $$ [I1 I2 Hs Hd Hr HF HO T1 R1 T2]
  · isplitl [I1]; · iexact I1
    isplitl [I2]; · iexact I2
    isplitl [Hs]; · iexact Hs
    isplitl [Hd HF]
    · isplitl [Hd]; · iexact Hd
      iexact HF
    isplitl [HO]; · iexact HO
    isplitl [T1]; · iexact T1
    isplitl [R1]; · iexact R1
    isplitl [T2]; · iexact T2
    iexact Hr
  iexact Hk

theorem slot_credit (p : Fin 2) : (slotM p).view.dmaCredit = N := rfl

theorem wp_wait_received (K : GSem nD τ sig → ℕ) (c : Dev nD) (t : ℕ) (ht : t < 32)
    (D : Memref sig .tc .vmem S1024x256 .f32) (hD : D = slotM (par t)) (R : DmaSem sig) (hR : R = rcvS (par t))
    {hsrc : (sndM : Memref sig .tc .vmem S1024x256 .f32).view.WordExact} {hdst : D.view.WordExact}
    {α : Type} {Q : α → sProp 𝕄} {k : PUnit → Prog (TpuEff nD τ sig (Elt F) Λ₀ .tc) α} (W : Waits sig ℕ) :
    iprop(cellInv ER (Rd X) (K (rcvC c (par t))) (rcvC c (par t)) ∗ levAts L lv
        ∗ cred (tallyAt (rcvC c (par t)) t N) ∗ owes (c : Thread nD τ) (OT c (t + 1)) W ∗ atPos ER (rcvC c (par t)) (t / 2) ∅ 0)
      ⊢ iprop(((∃ W', owes (c : Thread nD τ) (OT c (t + 1)) W') ∗ atPos ER (rcvC c (par (t + 2))) ((t + 2) / 2) ∅ 0
              ∗ reached ER (rcvC c (par (t + 2))) ((t + 2) / 2) ∗ rcvPay X c t
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 R sndM D hsrc hdst) k) Q) := by
  subst hD hR
  iintro ⟨I, #Hlev, Hc, HO, Hat⟩
  iintro Hk
  iapply (Rounds.wp_wait_rest_token 𝒱₀ ER (Rd X) (c : Thread nD τ) none (κ := K (rcvC c (par t)))
      (wpE_waitDma2_eq 𝒱₀ (c : Thread nD τ) none Set.univ) (Set.mem_univ _) t (O := OT c (t + 1)) (W := W) (R := t / 2) (m := 0) (T := ∅)
      ((Nat.zero_add _).trans ((slot_credit (par t)).trans (expect_rcv X c ht).symm))) $$ [I Hc HO Hat]
  · isplitl [I]; · iexact I
    isplitl [Hc]; · iexact Hc
    isplitl [HO]; · iexact HO
    isplitr
    · iapply (mayWait_of c (.dma (rcvS (par t))) t (t + 1) ht (by rw [lv_rcv]; omega)); iexact Hlev
    iexact Hat
  iintro ⟨HO, Hat, Hr, Hpay⟩
  ihave Hp := (Entails.of_eq (rest_rcv X c ht)) $$ Hpay
  rw [par_add_two, show (t + 2) / 2 = t / 2 + 1 by omega]
  iapply Hk
  isplitl [HO]; · iexists _; iexact HO
  isplitl [Hat]; · iexact Hat
  isplitl [Hr]; · iexact Hr
  iexact Hp

theorem wp_wait_sent (K : GSem nD τ sig → ℕ) (c : Dev nD) (t : ℕ) (ht : t < 32)
    (D : Memref sig .tc .vmem S1024x256 .f32)
    {hdst : (sndM : Memref sig .tc .vmem S1024x256 .f32).view.WordExact} {hsrc : D.view.WordExact}
    {α : Type} {Q : α → sProp 𝕄} {k : PUnit → Prog (TpuEff nD τ sig (Elt F) Λ₀ .tc) α} (W : Waits sig ℕ) :
    iprop(cellInv ER (Rd X) (K (sndC c)) (sndC c) ∗ levAts L lv
        ∗ cred (tallyAt (sndC c) 0 N) ∗ owes (c : Thread nD τ) (OT c (t + 1)) W ∗ atPos ER (sndC c) t ∅ 0)
      ⊢ iprop(((∃ W', owes (c : Thread nD τ) (OT c (t + 1)) W') ∗ atPos ER (sndC c) (t + 1) ∅ 0
              ∗ reached ER (sndC c) (t + 1) ∗ sndAny (F := F) c
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sndS D sndM hsrc hdst) k) Q) := by
  iintro ⟨I, #Hlev, Hc, HO, Hat⟩
  iintro Hk
  iapply (Rounds.wp_wait_rest_token 𝒱₀ ER (Rd X) (c : Thread nD τ) none (κ := K (sndC c))
      (wpE_waitDma2_eq 𝒱₀ (c : Thread nD τ) none Set.univ) (Set.mem_univ _) 0 (O := OT c (t + 1)) (W := W) (R := t) (m := 0) (T := ∅)
      ((Nat.zero_add _).trans (expect_snd X c ht).symm)) $$ [I Hc HO Hat]
  · isplitl [I]; · iexact I
    isplitl [Hc]; · iexact Hc
    isplitl [HO]; · iexact HO
    isplitr
    · iapply (mayWait_of c (.dma sndS) 0 (t + 1) (by decide) (by rw [lv_snd]; omega)); iexact Hlev
    iexact Hat
  iintro ⟨HO, Hat, Hr, Hpay⟩
  ihave Hp := (Entails.of_eq (rest_snd X c ht)) $$ Hpay
  unfold sndPay
  iapply Hk
  isplitl [HO]; · iexists _; iexact HO
  isplitl [Hat]; · iexact Hat
  isplitl [Hr]; · iexact Hr
  iexact Hp

end Cert.OProj

end
-- ==== Proof.Body.lean ====
/-
  The run of one grid step.
-/
module

public import proofs.«01_k».proof.Proof.Step

@[expose] public section

noncomputable section

namespace Cert.OProj

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (X : Sent F)

/-- The handshake is guarded by "this is step 0". -/
theorem cond_iff (i : grid0.Coords) : k0_cond1 i = 1#1 ↔ (i 0).val = 0 := by
  have h : ∀ n : Fin 32, (Scalar.cmpi .ne (Scalar.extui (Scalar.cmpi .eq (BitVec.ofNat 32 n.val) 0#32) : BitVec 32) 0#32 = 1#1) = (n.val = 0) := by
    decide
  exact Iff.of_eq (h (i 0))

/-- The handshake before step 0, nothing before a later step; then the rest of the step, `k`. -/
theorem shake_run (K : GSem nD τ sig → ℕ) (c : Dev nD) (t : ℕ) (i : grid0.Coords) (hi : (i 0).val = t) (W : Waits sig ℕ)
    {α : Type} (k : Prog (TpuEff nD τ sig (Elt F) Λ₀ .tc) α) (Q : α → sProp 𝕄) :
    iprop(invs X K c ∗ levAts L lv ∗ ready (F := F) c t ∗ owes (c : Thread nD τ) (owedAt c t) W)
      ⊢ iprop(((mid (F := F) c t ∗ ∃ W', owes (c : Thread nD τ) (OT c t) W')
            -∗ wp frame (wpE (defs₀ (F := F)) 𝒱₀ (c : Thread nD τ) none) Set.univ k Q)
          -∗ wp frame (wpE (defs₀ (F := F)) 𝒱₀ (c : Thread nD τ) none) Set.univ
          (if h : k0_cond1 i = 1#1 then do
            semSignalWord (⟨k0_dev1 c, k0_dev1_lt i c h⟩ : Dev nD) barS 1#32
            semWaitWord barS 1#32
            k
          else k) Q) := by
  by_cases h0 : t = 0
  · subst h0
    rw [dif_pos ((cond_iff i).mpr hi)]
    simp only [semSignalWord, semWaitWord, Prog.lift, Prog.bind_op, Prog.bind_ret, Prog.pure_eq_ret]
    unfold ready owedAt shake invs
    rw [if_pos rfl, if_pos rfl]
    iintro ⟨⟨#I1, -, -, -, #I2, -, -⟩, #Hlev, ⟨Hb, ⟨Hs, #Hr, Hat, #Hrb, Ht, Hc⟩⟩, HO⟩
    iintro Hk
    iapply (wp_signal_partner X K c _ (dev1_pr c _) W) $$ [HO Ht Hs]
    · isplitr; · iexact I2
      isplitl [HO]; · iexact HO
      isplitl [Ht]; · iexact Ht
      isplitl [Hs]
      · unfold barPay; rw [pr_pr]
        isplitl [Hs]; · iexact Hs
        iexact Hr
      iexact Hrb
    iintro HO
    iapply (Rounds.wp_wait_rest_token 𝒱₀ ER (Rd X) (c : Thread nD τ) none (κ := K (barC c))
        (wpE_semWait_eq 𝒱₀ (c : Thread nD τ) none Set.univ) (Set.mem_univ _) 0 (O := OT c 0) (W := W) (R := 0) (m := 0) (T := ∅)
        ((Nat.zero_add 1).trans (expect_bar X c).symm)) $$ [Hc HO Hat]
    · isplitr; · iexact I1
      isplitl [Hc]; · iexact Hc
      isplitl [HO]; · iexact HO
      isplitr
      · iapply (mayWait_of c (.reg barS) 0 0 (by decide) (by rw [lv_bar]; omega)); iexact Hlev
      iexact Hat
    iintro ⟨HO, Hat, -, Hpay⟩
    ihave Hp := (Entails.of_eq (rest_bar X c)) $$ Hpay
    iapply Hk
    isplitr [HO]
    · unfold mid
      isplitl [Hb]; · iexact Hb
      isplitl [Hat]; · iexact Hat
      isplitl [Hp]
      · unfold grant barPay; rw [if_pos (by decide)]; iexact Hp
      · unfold keep; rw [if_pos (by decide)]; iempintro
    · iexists _; iexact HO
  · rw [dif_neg (fun h => h0 (hi ▸ (cond_iff i).mp h))]
    unfold ready owedAt
    rw [if_neg h0, if_neg h0]
    iintro ⟨-, -, Hm, HO⟩
    iintro Hk
    iapply Hk
    isplitl [Hm]; · iexact Hm
    iexists _; iexact HO

/-! ## Loads and stores of a whole memref -/

section Whole

variable {sp : CoreSpace} {s : Shape} {e : EltTy} {α : Type}

theorem wp_load_full (c : Dev nD) (m : Memref sig .tc sp s e) (A : s.Idx → Elt F e) {off : Fin s.rank → ℕ}
    {inb : ∀ a, off a + s.size a ≤ s.size a} {hl : m.view.LoadsAt (Rect.unit off s.size inb).toLoadRect}
    {Q : α → sProp 𝕄} {k : (s.Idx → Elt F e) → Prog (TpuEff nD τ sig (Elt F) Λ₀ .tc) α} :
    (owns (c : Thread nD τ) m fullShare A : sProp 𝕄)
      ⊢ iprop((owns (c : Thread nD τ) m fullShare A -∗ wp frame (wpE (defs₀ (F := F)) 𝒱₀ (c : Thread nD τ) none) Set.univ (k A) Q)
          -∗ wp frame (wpE (defs₀ (F := F)) 𝒱₀ (c : Thread nD τ) none) Set.univ (.op (.load m (Rect.unit off s.size inb).toLoadRect hl) k) Q) := by
  iintro H
  iintro Hk
  unfold owns
  icases H with ⟨%f, %hf, H⟩
  iapply (wp_load 𝒱₀ (c : Thread nD τ) none Set.univ (m := m) (S := m.view.set) (q := fullShare) (f := f)
    (View.setOn_subset_set _ _)) $$ H
  iintro H
  rw [View.readAt_full, hf]
  iapply Hk
  iexists f
  isplitr; · ipureintro; exact hf
  iexact H

theorem wp_store_full (c : Dev nD) (m : Memref sig .tc sp s e) (d w : s.Idx → Elt F e) {off : Fin s.rank → ℕ}
    {inb : ∀ a, off a + s.size a ≤ s.size a} {hx : (m.access (Rect.unit off s.size inb)).Stores Finset.univ}
    {hm : (Finset.univ : Finset (Rect.unit off s.size inb).shape.Idx) = Finset.univ ∨ ∀ a, (Rect.unit off s.size inb).stride a = 1}
    {Q : α → sProp 𝕄} {k : PUnit → Prog (TpuEff nD τ sig (Elt F) Λ₀ .tc) α} :
    (owns (c : Thread nD τ) m fullShare d : sProp 𝕄)
      ⊢ iprop((owns (c : Thread nD τ) m fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.store m (Rect.unit off s.size inb) w Finset.univ hx hm) k) Q) := by
  iintro H
  iintro Hk
  unfold owns
  icases H with ⟨%f, -, H⟩
  iapply (wp_store 𝒱₀ (c : Thread nD τ) none Set.univ (m := m) (r := Rect.unit off s.size inb) (S := m.view.set) (f := f)
    ((View.setOn_subset_set _ _).trans (by rw [View.set_slice]; exact View.setOn_subset_set _ _))) $$ H
  iintro H
  iapply Hk
  iexists _
  isplitr
  · ipureintro; exact read_store_full m.view f inb w
  iexact H

end Whole

theorem owns_snd (c : Dev nD) (Y : S1024x256.Idx → Elt F .f32) : (owns (c : Thread nD τ) sndM fullShare Y : sProp 𝕄) ⊢ sndPts c Y := by
  unfold sndPts
  rw [set_snd]
  exact Entails.of_eq (owns_whole (c : Thread nD τ) cc0_scratch1 fullShare Y)

/-- A load of some rows of the accumulator. -/
theorem wp_load_acc (c : Dev nD) (P : S2048x256.Idx → Elt F .f32) {off : Fin 2 → ℕ}
    {inb : ∀ a, off a + S1024x256.size a ≤ S2048x256.size a}
    {hl : (accM : Memref sig .tc .vmem S2048x256 .f32).view.LoadsAt (Rect.unit (s := S2048x256) off S1024x256.size inb).toLoadRect}
    {α : Type} {Q : α → sProp 𝕄} {k : (S1024x256.Idx → Elt F .f32) → Prog (TpuEff nD τ sig (Elt F) Λ₀ .tc) α} :
    (owns (c : Thread nD τ) accM fullShare P : sProp 𝕄)
      ⊢ iprop((owns (c : Thread nD τ) accM fullShare P -∗ wp frame (wpE (defs₀ (F := F)) 𝒱₀ (c : Thread nD τ) none) Set.univ
              (k ((accM : Memref sig .tc .vmem S2048x256 .f32).view.readAt (Elt F)
                (Rect.unit (s := S2048x256) off S1024x256.size inb).toLoadRect P)) Q)
          -∗ wp frame (wpE (defs₀ (F := F)) 𝒱₀ (c : Thread nD τ) none) Set.univ
              (.op (.load accM (Rect.unit (s := S2048x256) off S1024x256.size inb).toLoadRect hl) k) Q) := by
  iintro H
  iintro Hk
  unfold owns
  icases H with ⟨%f, %hf, H⟩
  have hf' : f = P := hf
  iapply (wp_load 𝒱₀ (c : Thread nD τ) none Set.univ (m := accM) (S := (accM : Memref sig .tc .vmem S2048x256 .f32).view.set) (q := fullShare) (f := f)
    (View.setOn_subset_set _ _)) $$ H
  iintro H
  rw [← hf']
  iapply Hk
  iexists f
  isplitr; · ipureintro; rfl
  iexact H

/-- A load of a landing slot. -/
theorem wp_load_slot (c : Dev nD) (p : Fin 2) (Y : S1024x256.Idx → Elt F .f32) (off : Fin 3 → ℕ) (ho : off = ![p.val, 0, 0])
    {inb : ∀ a, off a + S1x1024x256.size a ≤ S2x1024x256.size a}
    {hl : (lndM : Memref sig .tc .vmem S2x1024x256 .f32).view.LoadsAt (Rect.unit (s := S2x1024x256) off S1x1024x256.size inb).toLoadRect}
    {α : Type} {Q : α → sProp 𝕄} {k : (S1x1024x256.Idx → Elt F .f32) → Prog (TpuEff nD τ sig (Elt F) Λ₀ .tc) α} :
    (owns (c : Thread nD τ) (slotM p) fullShare Y : sProp 𝕄)
      ⊢ iprop((∀ v : S1x1024x256.Idx → Elt F .f32,
              (⌜(shapeCast S1024x256 (v : Vec F S1x1024x256 .f32) shapeCasts_S1x1024x256_S1024x256 : Vec F S1024x256 .f32) = Y⌝
                ∗ owns (c : Thread nD τ) (slotM p) fullShare Y)
              -∗ wp frame (wpE (defs₀ (F := F)) 𝒱₀ (c : Thread nD τ) none) Set.univ (k v) Q)
          -∗ wp frame (wpE (defs₀ (F := F)) 𝒱₀ (c : Thread nD τ) none) Set.univ
              (.op (.load lndM (Rect.unit (s := S2x1024x256) off S1x1024x256.size inb).toLoadRect hl) k) Q) := by
  subst ho
  iintro H
  iintro Hk
  unfold owns
  icases H with ⟨%f, %hf, H⟩
  iapply (wp_load 𝒱₀ (c : Thread nD τ) none Set.univ (m := lndM) (r := (slotR p).toLoadRect) (S := (slotM p).view.set) (q := fullShare) (f := f)
    (by rw [set_slot])) $$ H
  iintro H
  iapply Hk
  isplitr
  · ipureintro; exact (slot_load p f).trans hf
  iexists f
  isplitr; · ipureintro; exact hf
  iexact H

theorem owns_slot (c : Dev nD) (p : Fin 2) (Y : S1024x256.Idx → Elt F .f32) :
    (owns (c : Thread nD τ) (slotM p) fullShare Y : sProp 𝕄) ⊢ slotAny c p := by
  unfold owns; iintro ⟨%f, -, H⟩; iexists f; iexact H
theorem owns_acc (c : Dev nD) (P : S2048x256.Idx → Elt F .f32) :
    (owns (c : Thread nD τ) accM fullShare P : sProp 𝕄) ⊢ accAny c := by
  unfold owns; iintro ⟨%f, -, H⟩; iexists f; iexact H

theorem out_eq (c : Dev nD) (A : S2048x4096.Idx → Elt F .f32) (B : S4096x256.Idx → Elt F .f32) (v : S1x1024x256.Idx → Elt F .f32)
    (Y : S1024x256.Idx → Elt F .f32)
    (h : (shapeCast S1024x256 (v : Vec F S1x1024x256 .f32) shapeCasts_S1x1024x256_S1024x256 : Vec F S1024x256 .f32) = Y) :
    k0_pay1 (keptOf c A B) v = outOf c A B Y := by
  subst h; rfl

set_option maxHeartbeats 1600000 in
/-- One grid step: from `ready` to `mid` at the next step, the two input blocks in place, the output block written. -/
theorem step_run (K : GSem nD τ sig → ℕ) (c : Dev nD) (t : ℕ) (ht : t < 32) (i : grid0.Coords) (hi : (i 0).val = t) (W : Waits sig ℕ)
    (arg1 : Memref sig .tc .vmem S2048x4096 .f32) (harg1 : arg1.IsWhole) (arg2 : Memref sig .tc .vmem S4096x256 .f32) (harg2 : arg2.IsWhole)
    (arg3 : Memref sig .tc .vmem S1x1024x256 .f32) (harg3 : arg3.IsWhole)
    (A : S2048x4096.Idx → Elt F .f32) (B : S4096x256.Idx → Elt F .f32) (hX : X c t = sentOf c A B) (Q : PUnit → sProp 𝕄) :
    iprop(invs X K c ∗ levAts L lv ∗ ready (F := F) c t ∗ owes (c : Thread nD τ) (owedAt c t) W
        ∗ owns (c : Thread nD τ) arg1 fullShare A ∗ owns (c : Thread nD τ) arg2 fullShare B ∗ (∃ d, owns (c : Thread nD τ) arg3 fullShare d)
        ∗ ((mid (F := F) c (t + 1) ∗ (∃ W', owes (c : Thread nD τ) (OT c (t + 1)) W')
            ∗ owns (c : Thread nD τ) arg1 fullShare A ∗ owns (c : Thread nD τ) arg2 fullShare B
            ∗ owns (c : Thread nD τ) arg3 fullShare (outOf c A B (X (pr c) t))) -∗ |={Set.univ}=> Q ⟨⟩))
      ⊢ wp frame (wpE (defs₀ (F := F)) 𝒱₀ (c : Thread nD τ) none) Set.univ
          (cc0_body i arg1 harg1 arg2 harg2 arg3 harg3 accM (Memref.isWhole_whole _) sndM (Memref.isWhole_whole _) lndM (Memref.isWhole_whole _)
            cc0_scratch3 cc0_scratch4) Q := by
  simp only [cc0_body_eq_skeleton]; unfold cc0_body_skel
  simp only [k0_part1_eq_skeleton]; unfold k0_part1_skel
  simp only [Prog.lift, Prog.bind_op, Prog.bind_ret, wp_deviceId, Idealize.SL.Sem.wp_bind]
  iintro ⟨#Hinv, #Hlev, Hrdy, HO, H1, H2, ⟨%d3, H3⟩, Hk⟩
  iapply (shake_run X K c t i hi W) $$ [Hrdy HO]
  · isplitr; · iexact Hinv
    isplitr; · iexact Hlev
    isplitl [Hrdy]; · iexact Hrdy
    iexact HO
  iintro ⟨Hmid, ⟨%W1, HO⟩⟩
  simp only [Prog.pure_eq_ret, wp_ret]
  ihave #I1 := (invs_send X K c) $$ Hinv
  ihave #I2 := (invs_own X K c (par t)) $$ Hinv
  ihave #I3 := (invs_partner X K c (par t)) $$ Hinv
  unfold mid base
  icases Hmid with ⟨⟨HatS, #HrS, HatV, HatV', #HrV', Hs', ⟨%fa, Ha⟩, ⟨%fs, Hs⟩, Htk⟩, HatB, Hg, Hkp⟩
  ihave Ha := (owns_intro (c : Thread nD τ) accM fullShare fa) $$ Ha
  ihave Hs := (owns_intro (c : Thread nD τ) sndM fullShare fs) $$ Hs
  ihave Htk := (Entails.of_eq (toks_step c ht)) $$ Htk
  unfold tok
  icases Htk with ⟨⟨T1, T2, HcV⟩, Htk⟩
  -- the partial product, and the rows to send
  iapply (wp_load_full c arg1 A) $$ H1
  iintro H1
  iapply (wp_load_full c arg2 B) $$ H2
  iintro H2
  iapply (wp_load_full c accM _) $$ Ha
  iintro Ha
  iapply (wp_store_full c accM _ (k0_pay2 A B)) $$ Ha
  iintro Ha
  iapply (wp_load_acc c (k0_pay2 A B)) $$ Ha
  iintro Ha
  iapply (wp_load_full c sndM _) $$ Hs
  iintro Hs
  iapply (wp_store_full c sndM _ (sentOf c A B)) $$ Hs
  iintro Hs
  rw [wp_ret]
  imodintro
  dsimp only
  -- the copy: the partner's slot, and with it the own slot of the next step
  ihave Hgr := (slot_split (F := F) c (t + 1)) $$ [Hs']
  · isplitl [Hs']; · iexact Hs'
    iexact HrV'
  icases Hgr with ⟨Hg', Hk'⟩
  ihave Hs := (owns_snd (F := F) c _) $$ Hs
  iapply (wp_send_partner X K c _ (dev2_pr c _) t ht _ (slot_of_off _ _ (off3_par i t hi) _ _) _ (rcv_of_off _ _ (off2_par i t hi) _) W1 _ hX.symm)
    $$ [Hs Hg Hg' HO T1 T2]
  · isplitr; · iexact I1
    isplitr; · iexact I3
    isplitl [Hs]; · iexact Hs
    isplitl [Hg]; · iexact Hg
    isplitl [Hg']; · iexact Hg'
    isplitl [HO]; · iexact HO
    isplitl [T1]; · iexact T1
    isplitr; · iexact HrS
    iexact T2
  iintro ⟨HcS, HO⟩
  -- the own buffer has been read
  iapply (wp_wait_sent X K c t ht _ W1) $$ [HcS HO HatS]
  · isplitr; · iexact I1
    isplitr; · iexact Hlev
    isplitl [HcS]; · iexact HcS
    isplitl [HO]; · iexact HO
    iexact HatS
  iintro ⟨⟨%W2, HO⟩, HatS, #HrS', Hs⟩
  -- the partner's block has come, and with it the partner's slot of the next step
  iapply (wp_wait_received X K c t ht _ (slot_of_off _ _ (off3_par i t hi) _ _) _ (rcv_of_off _ _ (off2_par i t hi) _) W2) $$ [HcV HO HatV]
  · isplitr; · iexact I2
    isplitr; · iexact Hlev
    isplitl [HcV]; · iexact HcV
    isplitl [HO]; · iexact HO
    iexact HatV
  iintro ⟨HO, HatV, #HrV'', Hp⟩
  unfold rcvPay
  icases Hp with ⟨Hsl, Hg⟩
  -- the kept rows plus the block that came
  iapply (wp_load_acc c (k0_pay2 A B)) $$ Ha
  iintro Ha
  iapply (wp_load_slot c (par t) _ _ (off5_par i t hi)) $$ Hsl
  iintro %v ⟨%hv, Hsl⟩
  iapply (wp_load_full c arg3 d3) $$ H3
  iintro H3
  iapply (wp_store_full c arg3 d3 (k0_pay1 (keptOf c A B) v)) $$ H3
  iintro H3
  rw [wp_ret]
  iapply Hk
  rw [out_eq c A B v _ hv]
  isplitl [HatS HatV HatV' Hs Ha Htk HatB Hg Hk' Hsl]
  · isplitl [HatS HatV HatV' Hs Ha Htk Hsl]
    · isplitl [HatS]; · iexact HatS
      isplitr; · iexact HrS'
      isplitl [HatV']; · iexact HatV'
      isplitl [HatV]; · iexact HatV
      isplitr; · iexact HrV''
      isplitl [Hsl]
      · rw [par_add_two]; iapply (owns_slot c (par t) _); iexact Hsl
      isplitl [Ha]
      · iapply (owns_acc c _); iexact Ha
      isplitl [Hs]; · iexact Hs
      iexact Htk
    isplitl [HatB]; · iexact HatB
    isplitl [Hg]; · iexact Hg
    iexact Hk'
  isplitl [HO]; · iexact HO
  isplitl [H1]; · iexact H1
  isplitl [H2]; · iexact H2
  iexact H3

end Cert.OProj

end
-- ==== Proof.Region.lean ====
/-
  The pallas_call on every device: its 32 steps in the pipeline's terms, from the cells dormant to all of them closed.

  Before step t the body holds `ready c t` and the cells' invariants; after the last step every own cell is closed at zero
  and the scratch buffers are whole again. What the array of the result holds at the end is the pipeline's
  `arrAt 2`, a fold of the 32 blocks written.
-/
module

public import proofs.«01_k».proof.Proof.Body

@[expose] public section

noncomputable section

namespace Cert.OProj

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

/-! ## The landing buffer and its two slots -/

theorem slots_disjoint : Disjoint (slotM 0).view.set (slotM 1).view.set := by
  rw [set_slot, set_slot]
  refine (Finset.disjoint_map _).mpr (Finset.disjoint_left.mpr fun i h0 h1 => ?_)
  have a0 := (Rect.mem_set_unit.mp h0) 0
  have a1 := (Rect.mem_set_unit.mp h1) 0
  have b0 : (i 0).val < 0 + 1 := a0.2
  have b1 : 1 ≤ (i 0).val := a1.1
  omega

theorem slots_cover : (slotM 0).view.set ∪ (slotM 1).view.set = Finset.univ := by
  rw [set_slot, set_slot]
  unfold View.setOn
  rw [← Finset.map_union, show ((slotR 0).set ∪ (slotR 1).set : Finset S2x1024x256.Idx) = Finset.univ from ?_]
  · exact View.set_whole _
  · ext i
    refine ⟨fun _ => Finset.mem_univ _, fun _ => ?_⟩
    have hi : (i 0).val < 2 := (i 0).isLt
    have h1 : (i 1).val < 1024 := (i 1).isLt
    have h2 : (i 2).val < 256 := (i 2).isLt
    rw [Finset.mem_union]
    rcases (show (i 0).val = 0 ∨ (i 0).val = 1 by omega) with h | h
    · left; refine Rect.mem_set_unit.mpr fun a => ?_
      match a with
      | 0 => exact ⟨Nat.zero_le _, by show (i 0).val < 0 + 1; omega⟩
      | 1 => exact ⟨Nat.zero_le _, by show (i 1).val < 0 + 1024; omega⟩
      | 2 => exact ⟨Nat.zero_le _, by show (i 2).val < 0 + 256; omega⟩
    · right; refine Rect.mem_set_unit.mpr fun a => ?_
      match a with
      | 0 => exact ⟨by show 1 ≤ (i 0).val; omega, by show (i 0).val < 1 + 1; omega⟩
      | 1 => exact ⟨Nat.zero_le _, by show (i 1).val < 0 + 1024; omega⟩
      | 2 => exact ⟨Nat.zero_le _, by show (i 2).val < 0 + 256; omega⟩

abbrev lndAny (c : Dev nD) : sProp 𝕄 :=
  iprop(∃ f : Buf (Elt F) ((c : Thread nD τ).loc cc0_scratch2), ((c : Thread nD τ).loc cc0_scratch2) ↦{fullShare} f)

theorem slots_split (c : Dev nD) : lndAny (F := F) c ⊢ iprop(slotAny c 0 ∗ slotAny (F := F) c 1) := by
  iintro ⟨%f, H⟩
  rw [← slots_cover]
  ihave H' := (pointsTo_union slots_disjoint).1 $$ H
  icases H' with ⟨H0, H1⟩
  isplitl [H0]
  · iexists f; iexact H0
  · iexists f; iexact H1

theorem slots_join (c : Dev nD) : iprop(slotAny c 0 ∗ slotAny (F := F) c 1) ⊢ lndAny (F := F) c := by
  iintro ⟨⟨%f, H0⟩, ⟨%g, H1⟩⟩
  ihave H := (pointsTo_join (ℓ := (c : Thread nD τ).loc cc0_scratch2) slots_disjoint) $$ [H0 H1]
  · isplitl [H0]; · iexact H0
    iexact H1
  rw [slots_cover]
  iexists _; iexact H

/-- The three scratch buffers, whole at anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ lndAny (F := F) c)

theorem accAny_eq (c : Dev nD) : accAny (F := F) c
    = iprop(∃ f : Buf (Elt F) ((c : Thread nD τ).loc cc0_scratch0), ((c : Thread nD τ).loc cc0_scratch0) ↦{fullShare} f) := by
  unfold accAny accPts; rw [set_acc]
theorem sndAny_eq (c : Dev nD) : sndAny (F := F) c
    = iprop(∃ f : Buf (Elt F) ((c : Thread nD τ).loc cc0_scratch1), ((c : Thread nD τ).loc cc0_scratch1) ↦{fullShare} f) := by
  unfold sndAny sndPts; rw [set_snd]

/-! ## Before the first step and after the last -/

variable (X : Sent F)

/-- What comes from the launch besides the invariants and the rights to open: the barrier's position and tokens, and all tokens of the steps. -/
def bits (c : Dev nD) : sProp 𝕄 :=
  iprop(atPos ER (barC c) 0 ∅ 0 ∗ reached ER (barC (pr c)) 0 ∗ dutyTok ER (barC (pr c)) 0 () ∗ cred (tallyAt (barC c) 0 1) ∗ toks (F := F) c 0)

def dormant (c : Dev nD) : sProp 𝕄 :=
  iprop(∃ K, invs X K c ∗ (openTok ER (sndC c) ∗ openTok ER (rcvC c 0) ∗ openTok ER (rcvC c 1)) ∗ bits (F := F) c)

def opened (c : Dev nD) : sProp 𝕄 :=
  iprop(∃ K, invs X K c ∗ levAts L lv
    ∗ (atPos ER (sndC c) 0 ∅ 0 ∗ reached ER (sndC c) 0)
    ∗ (atPos ER (rcvC c 0) 0 ∅ 0 ∗ reached ER (rcvC c 0) 0)
    ∗ (atPos ER (rcvC c 1) 0 ∅ 0 ∗ reached ER (rcvC c 1) 0) ∗ bits (F := F) c)

/-- The kernel's own semaphores. -/
abbrev osem : Fin 3 → SemLoc sig := fun | 0 => .dma sndS | 1 => .dma (rcvS 0) | 2 => .dma (rcvS 1)

theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

def zeros (c : Dev nD) : sProp 𝕄 := iprop(semVal (sndC c) 0 ∗ semVal (rcvC c 0) 0 ∗ semVal (rcvC c 1) 0)

theorem ownSems_eq (c : Dev nD) : (Pipeline.ownSems0 osem c : sProp 𝕄) = zeros c := bigSep_three _

theorem open_cells (c : Dev nD) : iprop(dormant X c ∗ Pipeline.ownSems0 osem c ∗ levAts L lv) ⊢ (|={Set.univ}=> opened X c : sProp 𝕄) := by
  rw [ownSems_eq]
  unfold dormant opened zeros
  iintro ⟨⟨%K, #Hinv, ⟨HoS, Ho0, Ho1⟩, Hb⟩, ⟨Hs, H0, H1⟩, #Hlev⟩
  ihave #IS := (invs_send X K c) $$ Hinv
  ihave #I0 := (invs_own X K c 0) $$ Hinv
  ihave #I1 := (invs_own X K c 1) $$ Hinv
  imod (Rounds.cell_open ER (Rd X) (g := sndC c) (Set.mem_univ (K (sndC c)))) $$ [HoS Hs] with ⟨HaS, #HrS⟩
  · isplitr; · iexact IS
    isplitl [HoS] <;> iassumption
  imod (Rounds.cell_open ER (Rd X) (g := rcvC c 0) (Set.mem_univ (K (rcvC c 0)))) $$ [Ho0 H0] with ⟨Ha0, #Hr0⟩
  · isplitr; · iexact I0
    isplitl [Ho0] <;> iassumption
  imod (Rounds.cell_open ER (Rd X) (g := rcvC c 1) (Set.mem_univ (K (rcvC c 1)))) $$ [Ho1 H1] with ⟨Ha1, #Hr1⟩
  · isplitr; · iexact I1
    isplitl [Ho1] <;> iassumption
  imodintro
  iexists K
  isplitr; · iexact Hinv
  isplitr; · iexact Hlev
  isplitl [HaS]
  · isplitl [HaS]; · iexact HaS
    iexact HrS
  isplitl [Ha0]
  · isplitl [Ha0]; · iexact Ha0
    iexact Hr0
  isplitl [Ha1]
  · isplitl [Ha1]; · iexact Ha1
    iexact Hr1
  iexact Hb

/-- What the body holds before step `n`, and after the last. -/
def phi (c : Dev nD) (n : ℕ) : sProp 𝕄 :=
  if n < 32 then iprop(∃ K, invs X K c ∗ levAts L lv ∗ ready (F := F) c n ∗ ∃ r, prngReg c r)
  else iprop(semVal (barC c) 0 ∗ zeros c ∗ scratch (F := F) c ∗ ∃ r, prngReg c r)

theorem phi_first (c : Dev nD) : iprop(scratch (F := F) c ∗ (∃ r, prngReg c r) ∗ opened X c) ⊢ phi X c 0 := by
  unfold phi ready
  rw [if_pos (by decide), if_pos rfl]
  unfold scratch opened bits base shake
  rw [accAny_eq, sndAny_eq, par_zero, show par (0 + 1) = 1 from rfl, show (0 + 1) / 2 = 0 from rfl]
  iintro ⟨⟨H0, H1, H2⟩, Hp, ⟨%K, #Hinv, #Hlev, ⟨HaS, #HrS⟩, ⟨Ha0, #Hr0⟩, ⟨Ha1, #Hr1⟩, HaB, #HrB, HtB, HcB, Htk⟩⟩
  ihave Hsl := (slots_split (F := F) c) $$ H2
  icases Hsl with ⟨Hs0, Hs1⟩
  iexists K
  isplitr; · iexact Hinv
  isplitr; · iexact Hlev
  isplitr [Hp]
  · isplitl [HaS Ha0 Ha1 Hs1 H0 H1 Htk]
    · isplitl [HaS]; · iexact HaS
      isplitr; · iexact HrS
      isplitl [Ha0]; · iexact Ha0
      isplitl [Ha1]; · iexact Ha1
      isplitr; · iexact Hr1
      isplitl [Hs1]; · iexact Hs1
      isplitl [H0]; · iexact H0
      isplitl [H1]; · iexact H1
      iexact Htk
    isplitl [Hs0]; · iexact Hs0
    isplitr; · iexact Hr0
    isplitl [HaB]; · iexact HaB
    isplitr; · iexact HrB
    isplitl [HtB]; · iexact HtB
    iexact HcB
  iexact Hp

/-- After the last step every cell closes and the scratch buffers are whole again. -/
theorem close_cells (K : GSem nD τ sig → ℕ) (c : Dev nD) :
    iprop(invs X K c ∗ mid (F := F) c 32) ⊢ (|={Set.univ}=> (semVal (barC c) 0 ∗ zeros c ∗ scratch (F := F) c) : sProp 𝕄) := by
  unfold mid base keep zeros scratch
  rw [if_neg (by decide), accAny_eq, sndAny_eq, show par 32 = 0 from rfl, show par (32 + 1) = 1 from rfl, show 32 / 2 = 16 from rfl]
  iintro ⟨#Hinv, ⟨HaS, -, Ha0, Ha1, -, Hs1, H0, H1, -⟩, HaB, -, Hs0⟩
  ihave #IS := (invs_send X K c) $$ Hinv
  ihave #I0 := (invs_own X K c 0) $$ Hinv
  ihave #I1 := (invs_own X K c 1) $$ Hinv
  unfold invs
  icases Hinv with ⟨#IB, -⟩
  imod (close_bar X c (K (barC c))) $$ [HaB] with HvB
  · isplitr; · iexact IB
    iexact HaB
  imod (close_snd X c (K (sndC c))) $$ [HaS] with HvS
  · isplitr; · iexact IS
    iexact HaS
  imod (close_rcv X c 0 (K (rcvC c 0))) $$ [Ha0] with Hv0
  · isplitr; · iexact I0
    iexact Ha0
  imod (close_rcv X c 1 (K (rcvC c 1))) $$ [Ha1] with Hv1
  · isplitr; · iexact I1
    iexact Ha1
  imodintro
  isplitl [HvB]; · iexact HvB
  isplitl [HvS Hv0 Hv1]
  · isplitl [HvS]; · iexact HvS
    isplitl [Hv0] <;> iassumption
  isplitl [H0]; · iexact H0
  isplitl [H1]; · iexact H1
  iapply (slots_join (F := F) c)
  isplitl [Hs0] <;> iassumption

theorem phi_next (K : GSem nD τ sig → ℕ) (c : Dev nD) (t : ℕ) (ht : t < 32) :
    iprop(invs X K c ∗ levAts L lv ∗ mid (F := F) c (t + 1) ∗ ∃ r, prngReg c r) ⊢ (|={Set.univ}=> phi X c (t + 1) : sProp 𝕄) := by
  unfold phi
  by_cases h : t + 1 < 32
  · rw [if_pos h, show ready (F := F) c (t + 1) = mid c (t + 1) from if_neg (Nat.succ_ne_zero t)]
    iintro ⟨#Hinv, #Hlev, Hm, Hp⟩
    imodintro
    iexists K
    isplitr; · iexact Hinv
    isplitr; · iexact Hlev
    isplitl [Hm] <;> iassumption
  · rw [if_neg h]
    obtain rfl : t = 31 := by omega
    iintro ⟨#Hinv, -, Hm, Hp⟩
    imod (close_cells X K c) $$ [Hm] with ⟨HB, Hz, Hs⟩
    · isplitr; · iexact Hinv
      iexact Hm
    imodintro
    isplitl [HB]; · iexact HB
    isplitl [Hz]; · iexact Hz
    isplitl [Hs] <;> iassumption

/-! ## The proof data -/

section Data

variable (m : (ℓ : Loc nD τ sig) → Buf (Elt F) ℓ)

/-- Step `t` as a point of the grid. -/
def pt (t : ℕ) : Fin cfg0.N := ⟨t % 32, by rw [show cfg0.N = 32 from N_0]; exact Nat.mod_lt _ (by decide)⟩
theorem pt_lt (t : Fin cfg0.N) : t.val < 32 := lt_of_lt_of_eq t.isLt N_0
theorem pt_val (t : Fin cfg0.N) : pt t.val = t := Fin.ext (Nat.mod_eq_of_lt (pt_lt t))

/-- What device `c` sends at step `t`, as the launch memory determines it. -/
def sends : Sent F := fun c t => sentOf c (iblk m c 0 (pt t)) (iblk m c 1 (pt t))

/-- The block device `c` writes at step `t`. -/
def block (c : Dev nD) (t : Fin cfg0.N) : S1x1024x256.Idx → Elt F .f32 := outOf c (iblk m c 0 t) (iblk m c 1 t) (sends m (pr c) t.val)

def dat (c : Dev nD) : Dat τ (Elt F) ℕ ℕ UU ℕ cfg0 c where
  A w := V m c (Pipeline.arrRef spec0 w)
  after w t := match w with
    | 0 => iblk m c 0 t
    | 1 => iblk m c 1 t
    | 2 => block m c t
  Φ t := phi (sends m) c t.val
  q _ := fullShare
  owed t := owedAt c t.val

theorem before_O (c : Dev nD) (t : Fin cfg0.N) (d) : (dat m c).before 0 t d = iblk m c 0 t :=
  ((dat m c).before_in_eq_fetched 0 rfl (fun _ => rfl) (fun _ _ _ => rfl) (fun _ => rfl) t d).trans rfl
theorem before_W (c : Dev nD) (t : Fin cfg0.N) (d) : (dat m c).before 1 t d = iblk m c 1 t :=
  ((dat m c).before_in_eq_fetched 1 rfl (fun _ => rfl) (fun _ _ _ => rfl) (fun _ => rfl) t d).trans rfl

theorem owesAt_of (c : Dev nD) (t : Fin (cfg0.N + 1)) (O : CellTallies nD τ sig ℕ) (h : (dat m c).owed t = O) (W : Waits sig ℕ) :
    (owes (c : Thread nD τ) O W : sProp 𝕄) ⊢ (dat m c).owesAt 0 t := by
  unfold Dat.owesAt Pipeline.owesWithin Dat.bound
  rw [h]
  iintro H
  iexists W
  isplitr
  · ipureintro; exact fun _ _ => Or.inl trivial
  iexact H
theorem owesAt_to (c : Dev nD) (t : Fin (cfg0.N + 1)) (O : CellTallies nD τ sig ℕ) (h : (dat m c).owed t = O) :
    ((dat m c).owesAt 0 t : sProp 𝕄) ⊢ iprop(∃ W, owes (c : Thread nD τ) O W) := by
  unfold Dat.owesAt Pipeline.owesWithin
  rw [h]
  iintro ⟨%W, -, H⟩
  iexists W; iexact H

theorem coord_val (t : Fin cfg0.N) : ((grid0.coords t) 0).val = t.val := by revert t; decide

theorem body (c : Dev nD) : BodyObligation (dat m c) (defs₀ (F := F)) 𝒱₀ 0 Set.univ := fun t => by
  have ht : t.val < 32 := pt_lt t
  rw [bigSep_W0, bigSep_W0]
  have e1 : (dat m c).Φ t.castSucc = phi (sends m) c t.val := by dsimp only [dat]; rw [Fin.val_castSucc]
  have e2 : (dat m c).Φ t.succ = phi (sends m) c (t.val + 1) := by dsimp only [dat]; rw [Fin.val_succ]
  have e3 : (dat m c).owed t.castSucc = owedAt c t.val := by dsimp only [dat]; rw [Fin.val_castSucc]
  have e4 : (dat m c).owed t.succ = OT c (t.val + 1) := by
    dsimp only [dat]; rw [Fin.val_succ]; exact if_neg (Nat.succ_ne_zero _)
  rw [e1, e2]
  simp only [before_O, before_W]
  show iprop(_ ∗ _ ∗ (∃ d, owns (c : Thread nD τ) (st0_0 t) fullShare (iblk m c 0 t)) ∗ (∃ d, owns (c : Thread nD τ) (st0_1 t) fullShare (iblk m c 1 t))
      ∗ (∃ d, owns (c : Thread nD τ) (st0_2 t) fullShare ((dat m c).before 2 t d)))
    ⊢ wp frame (wpE (defs₀ (F := F)) 𝒱₀ (c : Thread nD τ) none) Set.univ (bodyAt0 t) fun _ =>
      iprop(_ ∗ _ ∗ owns (c : Thread nD τ) (st0_0 t) fullShare (iblk m c 0 t) ∗ owns (c : Thread nD τ) (st0_1 t) fullShare (iblk m c 1 t)
        ∗ owns (c : Thread nD τ) (st0_2 t) fullShare (block m c t))
  rw [show phi (sends m) c t.val = iprop(∃ K, invs (sends m) K c ∗ levAts L lv ∗ ready (F := F) c t.val ∗ ∃ r, prngReg c r) from if_pos ht]
  iintro ⟨⟨%K, #Hinv, #Hlev, Hr, Hp⟩, HO, ⟨%d1, H1⟩, ⟨%d2, H2⟩, ⟨%d3, H3⟩⟩
  ihave HO' := (owesAt_to m c _ _ e3) $$ HO
  icases HO' with ⟨%W, HO⟩
  iapply (step_run (sends m) K c t.val ht (grid0.coords t) (coord_val t) W _ _ _ _ _ _ (iblk m c 0 t) (iblk m c 1 t)
    (by unfold sends; rw [pt_val]) _)
  isplitr; · iexact Hinv
  isplitr; · iexact Hlev
  isplitl [Hr]; · iexact Hr
  isplitl [HO]; · iexact HO
  isplitl [H1]; · iexact H1
  isplitl [H2]; · iexact H2
  isplitl [H3]; · iexists _; iexact H3
  iintro ⟨Hm, ⟨%W', HO⟩, H1, H2, H3⟩
  imod (phi_next (sends m) K c t.val ht) $$ [Hm Hp] with Hphi
  · isplitr; · iexact Hinv
    isplitr; · iexact Hlev
    isplitl [Hm] <;> iassumption
  imodintro
  isplitl [Hphi]; · iexact Hphi
  isplitl [HO]; · iapply (owesAt_of m c _ _ e4 W'); iexact HO
  isplitl [H1]; · iexact H1
  isplitl [H2]; · iexact H2
  iexact H3

end Data

end Cert.OProj

end
-- ==== Proof.Run.lean ====
/-
  The whole program on the four devices: the host's reshape, the kernel, and the launch that hands every device its ghost
  state. `run_main` says that every weakly fair execution ends, the arguments unchanged, every counter at zero, and the
  result array of device c holding `result m c`.
-/
module

public import proofs.«01_k».proof.Proof.Region

@[expose] public section

noncomputable section

namespace Cert.OProj

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

/-! ## The arrays -/

/-- The launch memory, after the host's reshape, and after the kernel. -/
abbrev V₀ (c : Dev nD) : Valuation τ sig (Elt F) := fun b => m (c, b)
abbrev V₁ (c : Dev nD) : Valuation τ sig (Elt F) := StableHlo.after hostOps0 (V₀ m c)
/-- What the result array of device `c` holds at the end. -/
def result (c : Dev nD) : Buf (Elt F) ((c : Thread nD τ).loc main_v2) := (dat m c).arrAt 2 cfg0.N
def V₂ (c : Dev nD) : Valuation τ sig (Elt F) := Function.update (V₁ m c) (Proc.devRef .tc main_v2) (result m c)

theorem V₂_result (c : Dev nD) : V₂ m c main_v2 = result m c := Function.update_self ..
theorem V₂_ne (c : Dev nD) (b : Ref sig .tc) (h : b ≠ main_v2) : V₂ m c b = V₁ m c b :=
  Function.update_of_ne (StableHlo.devRef_ne_of_ne h) _ _

/-- The program's arrays, and among them those the kernel is not given. -/
def bufs : Finset (DevRef τ sig) := (StableHlo.tcRefs τ sig).filter fun b => ¬ b.isScoped
def aside : Finset (DevRef τ sig) := {Proc.devRef .tc main_arg0}

abbrev whole (c : Dev nD) (b : Ref sig .tc) (f : Buf (Elt F) ((c : Thread nD τ).loc b)) : sProp 𝕄 := ((c : Thread nD τ).loc b) ↦{fullShare} f

theorem held_unscoped (c : Dev nD) (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

theorem held_bufs (c : Dev nD) (W : Valuation τ sig (Elt F)) : (StableHlo.held (c : Thread nD τ) bufs W : sProp 𝕄)
    = iprop(whole c main_arg0 (W main_arg0) ∗ whole c main_arg1 (W main_arg1) ∗ whole c main_v1 (W main_v1) ∗ whole c main_v2 (W main_v2)) := by
  unfold StableHlo.held
  rw [bigSep_eq_bigSepL_of_eq [Proc.devRef .tc main_arg0, Proc.devRef .tc main_arg1, Proc.devRef .tc main_v1, Proc.devRef .tc main_v2]
    (by decide) (by decide)]
  rfl
theorem held_arrays (c : Dev nD) (W : Valuation τ sig (Elt F)) :
    (StableHlo.held (c : Thread nD τ) (Pipeline.arrRefs (τ := τ) spec0) W : sProp 𝕄)
    = iprop(whole c main_v1 (W main_v1) ∗ whole c main_arg1 (W main_arg1) ∗ whole c main_v2 (W main_v2)) := by
  unfold StableHlo.held
  rw [bigSep_eq_bigSepL_of_eq [Proc.devRef .tc main_v1, Proc.devRef .tc main_arg1, Proc.devRef .tc main_v2] (by decide) (by decide)]
  rfl
theorem held_aside (c : Dev nD) (W : Valuation τ sig (Elt F)) :
    (StableHlo.held (c : Thread nD τ) aside W : sProp 𝕄) = whole c main_arg0 (W main_arg0) := by
  unfold StableHlo.held aside
  rw [BI.bigSep_singleton]
theorem held_none (c : Dev nD) (W : Valuation τ sig (Elt F)) : (StableHlo.held (c : Thread nD τ) ∅ W : sProp 𝕄) = iprop(emp) := by
  unfold StableHlo.held
  exact BI.bigSep_empty

theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-! ## The two segments -/

/-- What rides beside the arrays. -/
def rider (c : Dev nD) : sProp 𝕄 := iprop(dormant (sends m) c ∗ (∃ r, prngReg c r) ∗ ∃ W, owes (c : Thread nD τ) (O₀ c) W)

theorem ops_sub : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs
  decide

def hostSeg : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (rider m)

theorem facts0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_first (c : Dev nD) : (pdats m 0 c).owed 0 = O₀ c := by
  show owedAt c (0 : Fin (cfg0.N + 1)).val = O₀ c
  rw [Fin.val_zero]
  exact if_pos rfl
theorem owed_last (c : Dev nD) : (pdats m 0 c).owed (Fin.last _) = 0 := by
  show owedAt c (Fin.last cfg0.N).val = 0
  rw [Fin.val_last, show cfg0.N = 32 from N_0]
  exact (if_neg (by decide)).trans (OT_end c)

theorem stage_sems : ∀ (w : Fin 3) (s : Fin (spec0 w).nbuf), (SemLoc.dma ((spec0 w).sem s) : SemLoc sig) ≠ .reg barS
    ∧ (SemLoc.dma ((spec0 w).sem s) : SemLoc sig) ≠ .dma (rcvS 0) ∧ (SemLoc.dma ((spec0 w).sem s) : SemLoc sig) ≠ .dma (rcvS 1) := by decide

theorem owedAt_pos {c : Dev nD} {t : ℕ} {g : GSem nD τ sig} {i : ℕ} (h : 0 < owedAt c t g i) : i ∈ L g ∧ 0 < lv g i := by
  have hOT {t : ℕ} (h : 0 < OT c t g i) : i ∈ L g ∧ 0 < lv g i := by
    obtain ⟨rfl, -, hi⟩ := OT_pos h
    exact ⟨by rw [L_tc]; exact Finset.mem_range.mpr hi, by rw [lv_rcv]; omega⟩
  unfold owedAt at h
  split at h
  · unfold O₀ at h
    rw [Pi.add_apply, Finsupp.add_apply] at h
    rcases Nat.add_pos_iff_pos_or_pos.mp h with h | h
    · exact hOT h
    · obtain ⟨rfl, rfl⟩ := Pipeline.tallyAt_pos h
      exact ⟨by rw [L_tc]; decide, by rw [lv_bar]; decide⟩
  · exact hOT h

theorem cut : Pipeline.LevelCutOwed (pcfgs (F := F)) adm (pdats m) 0 L lv 0 (fun _ => 0) where
  hι c w s := by rw [L_tc]; decide
  hιb c w s := by
    obtain ⟨h1, h2, h3⟩ := stage_sems w s
    show lv ((c : Thread nD τ), .dma ((spec0 w).sem s)) 0 ≤ 0
    unfold lv
    rw [if_neg h1, if_neg (not_or.mpr ⟨h2, h3⟩)]
  hD c t g i h := owedAt_pos h

theorem scratch_eq (c : Dev nD) :
    (Pipeline.scopedRest (Ix := ℕ) (Name := ℕ) (U := UU) (Lvl := ℕ) (Val := Elt F) (Pipeline.pin (pcfgs (F := F)) adm 0).spec c : sProp 𝕄) = scratch c :=
  scopedRest0_eq c

theorem enter (c : Dev nD) :
    iprop(Pipeline.scopedRest (Pipeline.pin (pcfgs (F := F)) adm 0).spec c ∗ (∃ r, prngReg c r) ∗ StableHlo.held (c.tc : Thread nD τ) ∅ (V₁ m c)
      ∗ opened (sends m) c) ⊢ (pdats m 0 c).Φ 0 := by
  rw [scratch_eq, held_none, show (pdats m 0 c).Φ 0 = phi (sends m) c 0 from by
    show phi (sends m) c (0 : Fin (cfg0.N + 1)).val = _
    rw [Fin.val_zero]]
  iintro ⟨Hs, Hp, -, Ho⟩
  iapply (phi_first (sends m) c)
  isplitl [Hs]; · iexact Hs
  isplitl [Hp]; · iexact Hp
  iexact Ho

theorem leave (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (V₂ m c)
        ∗ Pipeline.ownSems0 osem c ∗ semVal (barC c) 0) := by
  rw [scratch_eq, held_none, ownSems_eq]
  rw [show (pdats m 0 c).Φ (Fin.last (Pipeline.pin (pcfgs (F := F)) adm 0).N)
      = iprop(semVal (barC c) 0 ∗ zeros c ∗ scratch (F := F) c ∗ ∃ r, prngReg c r) from by
    show phi (sends m) c (Fin.last cfg0.N).val = _
    rw [Fin.val_last, show cfg0.N = 32 from N_0]
    exact if_neg (by decide)]
  iintro ⟨HB, Hz, Hs, Hp⟩
  isplitl [Hs]; · iexact Hs
  isplitl [Hp]; · iexact Hp
  isplitr; · iempintro
  isplitl [Hz]; · iexact Hz
  iexact HB

theorem arr_start (c : Dev nD) (w : Fin 3) : (pdats m 0 c).arrAt w 0 = V₁ m c (Proc.devRef .tc (Pipeline.arrRef spec0 w)) :=
  match w with
  | 0 => rfl
  | 1 => rfl
  | 2 => rfl
theorem arr_end (c : Dev nD) (w : Fin 3) : (pdats m 0 c).arrAt w (Pipeline.pin (pcfgs (F := F)) adm 0).N = V₂ m c (Proc.devRef .tc (Pipeline.arrRef spec0 w)) :=
  match w with
  | 0 => ((dat m c).arrAt_in 0 rfl _).trans (V₂_ne m c main_v1 (by decide)).symm
  | 1 => ((dat m c).arrAt_in 1 rfl _).trans (V₂_ne m c main_arg1 (by decide)).symm
  | 2 => (V₂_result m c).symm

set_option backward.isDefEq.respectTransparency.types false in
def kernelSeg : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ aside (Finset.empty_subset _) facts0 rfl (fun c => (body m c).loose)
    (fun _ => 0) O₀ (fun c => (owed_first m c).trans (zero_add _).symm) (owed_last m) (fun _ => rfl)
    (fun c w => match w with | 0 => rfl | 1 => rfl | 2 => rfl)
    (V₁ m) (V₂ m) (fun c b hb => by
      rw [Finset.sdiff_empty] at hb
      rw [Finset.mem_singleton.mp hb]
      exact V₂_ne m c main_arg0 (by decide))
    (dormant (sends m)) (fun c => semVal (barC c) 0) (opened (sends m)) (fun c => semVal (barC c) 0) (open_cells (sends m)) (enter m) (leave m)
    (fun c => by iintro H; imodintro; iexact H)
    (fun _ => 0) (cut m) (fun _ => iprop(emp)) (arr_start m) (arr_end m)

theorem kernel_pre (c : Dev nD) : iprop(StableHlo.held (c : Thread nD τ) bufs (V₁ m c) ∗ rider m c) ⊢ (kernelSeg m).pre c := by
  show _ ⊢ iprop(StableHlo.held (c.tc : Thread nD τ) (Pipeline.arrRefs (τ := τ) spec0) (V₁ m c) ∗ (∃ r, prngReg c r)
    ∗ (StableHlo.held (c.tc : Thread nD τ) aside (V₁ m c) ∗ emp) ∗ dormant (sends m) c ∗ ∃ Wd, owes (c : Thread nD τ) (0 + O₀ c) Wd)
  rw [held_arrays, held_bufs, held_aside, zero_add]
  unfold rider
  iintro ⟨⟨HO, HW, H1, H2⟩, Hd, Hp, Hw⟩
  isplitl [HW H1 H2]
  · isplitl [H1]; · iexact H1
    isplitl [HW] <;> iassumption
  isplitl [Hp]; · iexact Hp
  isplitl [HO]
  · isplitl [HO]; · iexact HO
    iempintro
  isplitl [Hd]; · iexact Hd
  iexact Hw

theorem kernel_post (c : Dev nD) : (kernelSeg m).post c
    ⊢ iprop((StableHlo.held (c : Thread nD τ) bufs (V₂ m c) ∗ semVal (barC c) 0) ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) aside (V₂ m c) ∗ emp) ∗ semVal (barC c) 0 ∗ ∃ Wd, owes (c : Thread nD τ) (0 : CellTallies nD τ sig ℕ) Wd) ⊢ _
  rw [held_arrays, held_bufs, held_aside]
  iintro ⟨⟨H1, HW, H2⟩, -, ⟨HO, -⟩, Hb, Hw⟩
  isplitr [Hw]
  · isplitr [Hb]
    · isplitl [HO]; · iexact HO
      isplitl [HW]; · iexact HW
      isplitl [H1] <;> iassumption
    iexact Hb
  iexact Hw

def segs : List (Pipeline.Seg (pcfgs (F := F)) adm (pdats m) 0 defs₀ 𝒱₀ L lv) := [.host (hostSeg m), .region (kernelSeg m)]

theorem main_eq (c : Dev nD) : main (F := F) c = Pipeline.Seg.run (segs m) :=
  main_segs adm (pdats m) 0 𝒱₀ L lv (hostSeg m) (kernelSeg m) rfl c

/-! ## The launch -/

def swap : Dev nD ≃ Dev nD := ⟨pr, pr, pr_pr, pr_pr⟩

def barEmb : Dev nD ↪ GSem nD τ sig := ⟨barC, fun _ _ h => congrArg (fun g : GSem nD τ sig => g.1.1) h⟩
theorem osem_inj : Function.Injective osem := by decide
def ownEmb : Dev nD × Fin 3 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, funded with their counters; the others, funded without. -/
abbrev barCells : Finset (GSem nD τ sig) := Finset.univ.map barEmb
abbrev ownCells : Finset (GSem nD τ sig) := Finset.univ.map ownEmb

/-- The duties of a device's own cells: the barrier's, the send cell's 32, the receive cells' 16 each by step. -/
abbrev Duty : Type := Unit ⊕ (Fin 32 ⊕ Fin 32)
def dutyAt : Duty → SemLoc sig × ℕ
  | .inl _ => (.reg barS, 0)
  | .inr (.inl t) => (.dma sndS, t.val)
  | .inr (.inr t) => (.dma (rcvS (par t.val)), t.val / 2)

theorem rcv_inj {p q : Fin 2} (h : (SemLoc.dma (rcvS p) : SemLoc sig) = .dma (rcvS q)) : p = q := by revert p q; decide

theorem dutyAt_inj : Function.Injective dutyAt := by
  rintro (a | a | a) (b | b | b) h
  · rfl
  · exact absurd (congrArg Prod.fst h).symm snd_ne_bar
  · exact absurd (congrArg Prod.fst h).symm (rcv_ne_bar _)
  · exact absurd (congrArg Prod.fst h) snd_ne_bar
  · exact congrArg (fun t : Fin 32 => (.inr (.inl t) : Duty)) (Fin.ext (congrArg Prod.snd h))
  · exact absurd (congrArg Prod.fst h) (snd_ne_rcv _)
  · exact absurd (congrArg Prod.fst h) (rcv_ne_bar _)
  · exact absurd (congrArg Prod.fst h).symm (snd_ne_rcv _)
  · have h1 : a.val % 2 = b.val % 2 := congrArg Fin.val (rcv_inj (congrArg Prod.fst h))
    have h2 : a.val / 2 = b.val / 2 := congrArg Prod.snd h
    exact congrArg (fun t : Fin 32 => (.inr (.inr t) : Duty)) (Fin.ext (by omega))

def tokens : Finset (GSem nD τ sig × ℕ × Unit) :=
  Finset.univ.map ⟨fun ck : Dev nD × Duty => (((ck.1 : Thread nD τ), (dutyAt ck.2).1), (dutyAt ck.2).2, ()), fun _ _ h =>
    Prod.ext (congrArg (fun t : GSem nD τ sig × ℕ × Unit => t.1.1.1) h)
      (dutyAt_inj (Prod.ext (congrArg (fun t : GSem nD τ sig × ℕ × Unit => t.1.2) h) (congrArg (fun t : GSem nD τ sig × ℕ × Unit => t.2.1) h)))⟩

theorem osem_ne_bar : ∀ k : Fin 3, osem k ≠ .reg barS := by decide
theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barC c ∈ (barCells ∪ ownCells : Finset (GSem nD τ sig)) :=
  Finset.mem_union_left _ (Finset.mem_map_of_mem barEmb (Finset.mem_univ c))
theorem own_mem (c : Dev nD) (k : Fin 3) : ((c : Thread nD τ), osem k) ∈ (barCells ∪ ownCells : Finset (GSem nD τ sig)) :=
  Finset.mem_union_right _ (Finset.mem_map_of_mem ownEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells ownCells tokens)

/-- The launch element of the exchange, left on device 0 until it is dealt out. -/
def parked (c : Dev nD) : sProp 𝕄 := if c = 0 then BI.own (ER (launchOf barCells ownCells tokens)) else iprop(emp)
theorem parked_eq : bigSep Finset.univ (parked (F := F)) = BI.own (ER (launchOf barCells ownCells tokens)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What every device may consult: all invariants, and that every barrier cell has reached round 0. -/
def records (κ : GSem nD τ sig → ℕ) : sProp 𝕄 :=
  iprop((bigSep (barCells ∪ ownCells) fun g => cellInv ER (Rd (sends m)) (κ g) g) ∗ bigSep barCells fun g => reached ER g 0)
instance records_persistent (κ : GSem nD τ sig → ℕ) : BI.Persistent (records m κ) := by unfold records; infer_instance

theorem inv_of (κ : GSem nD τ sig → ℕ) {g : GSem nD τ sig} (hg : g ∈ (barCells ∪ ownCells : Finset (GSem nD τ sig))) :
    records m κ ⊢ cellInv ER (Rd (sends m)) (κ g) g := by
  have h : bigSep (barCells ∪ ownCells) (fun g => cellInv ER (Rd (sends m)) (κ g) g) ⊢ (cellInv ER (Rd (sends m)) (κ g) g : sProp 𝕄) := bigSep_elim hg
  unfold records
  iintro ⟨H, -⟩
  iapply h $$ H
theorem reached_of (κ : GSem nD τ sig → ℕ) (c : Dev nD) : records m κ ⊢ reached ER (barC c) 0 := by
  have h : bigSep barCells (fun g => reached ER g 0) ⊢ (reached ER (barC c) 0 : sProp 𝕄) :=
    bigSep_elim (Finset.mem_map_of_mem barEmb (Finset.mem_univ c))
  unfold records
  iintro ⟨-, H⟩
  iapply h $$ H

/-- The tokens of the duties device `c` pays. -/
def pays (c : Dev nD) : sProp 𝕄 :=
  iprop(dutyTok ER (barC (pr c)) 0 () ∗ (bigSep Finset.univ fun t : Fin 32 => dutyTok ER (sndC c) t.val ())
    ∗ bigSep Finset.univ fun t : Fin 32 => dutyTok ER (rcvC (pr c) (par t.val)) (t.val / 2) ())
/-- The credit of its own waits. -/
def credits (c : Dev nD) : sProp 𝕄 :=
  iprop((bigSep Finset.univ fun t : Fin 32 => cred (tallyAt (rcvC c (par t.val)) t.val N)) ∗ cred (tallyAt (barC c) 0 1))
/-- What device `c` alone gets. -/
def share (c : Dev nD) : sProp 𝕄 :=
  iprop(atPos ER (barC c) 0 ∅ 0 ∗ (openTok ER (sndC c) ∗ openTok ER (rcvC c 0) ∗ openTok ER (rcvC c 1)) ∗ pays (F := F) c)

theorem bigSep_steps (Φ : ℕ → sProp 𝕄) : bigSep (Finset.Ico 0 32) Φ = bigSep Finset.univ fun t : Fin 32 => Φ t.val := by
  rw [show Finset.Ico 0 32 = (Finset.univ : Finset (Fin 32)).map Fin.valEmbedding from by decide, bigSep_map]
  rfl

theorem toks_of (c : Dev nD) :
    iprop((bigSep Finset.univ fun t : Fin 32 => dutyTok ER (sndC c) t.val ())
      ∗ (bigSep Finset.univ fun t : Fin 32 => dutyTok ER (rcvC (pr c) (par t.val)) (t.val / 2) ())
      ∗ bigSep Finset.univ fun t : Fin 32 => cred (tallyAt (rcvC c (par t.val)) t.val N)) ⊢ toks (F := F) c 0 := by
  unfold toks tok
  rw [bigSep_steps, bigSep_sep', bigSep_sep']

theorem dormant_of (κ : GSem nD τ sig → ℕ) (c : Dev nD) : iprop(records m κ ∗ share c ∗ credits c) ⊢ dormant (sends m) c := by
  unfold dormant bits share pays credits
  iintro ⟨#HR, ⟨HaB, Ho, HtB, HtS, HtV⟩, HcV, HcB⟩
  iexists κ
  isplitr
  · unfold invs
    isplitr; · iapply (inv_of m κ (bar_mem c)); iexact HR
    isplitr; · iapply (inv_of m κ (own_mem c 0)); iexact HR
    isplitr; · iapply (inv_of m κ (own_mem c 1)); iexact HR
    isplitr; · iapply (inv_of m κ (own_mem c 2)); iexact HR
    isplitr; · iapply (inv_of m κ (bar_mem (pr c))); iexact HR
    isplitr; · iapply (inv_of m κ (own_mem (pr c) 1)); iexact HR
    iapply (inv_of m κ (own_mem (pr c) 2)); iexact HR
  isplitl [Ho]; · iexact Ho
  isplitl [HaB]; · iexact HaB
  isplitr; · iapply (reached_of m κ (pr c)); iexact HR
  isplitl [HtB]; · iexact HtB
  isplitl [HcB]; · iexact HcB
  iapply (toks_of (F := F) c)
  isplitl [HtS]; · iexact HtS
  isplitl [HtV] <;> iassumption

/-- The tokens as dealt, cell by cell, are the tokens as paid, device by device. -/
theorem tokens_dealt :
    bigSep tokens (fun x => (dutyTok ER x.1 x.2.1 x.2.2 : sProp 𝕄)) ⊢ bigSep Finset.univ fun c : Dev nD => pays (F := F) c := by
  unfold tokens pays
  rw [bigSep_map, bigSep_univ_prod, bigSep_sep', bigSep_sep']
  rw [bigSep_congr (s := Finset.univ) (Ψ := fun c : Dev nD => iprop(dutyTok ER (barC c) 0 ()
      ∗ (bigSep Finset.univ fun t : Fin 32 => dutyTok ER (sndC c) t.val ())
      ∗ bigSep Finset.univ fun t : Fin 32 => (dutyTok ER (rcvC c (par t.val)) (t.val / 2) () : sProp 𝕄))) fun c _ => by
    rw [bigSep_univ_sum, bigSep_univ_sum, show (Finset.univ : Finset Unit) = {()} from rfl, bigSep_singleton]
    rfl]
  rw [bigSep_sep', bigSep_sep', bigSep_univ_equiv swap (fun c : Dev nD => (dutyTok ER (barC c) 0 () : sProp 𝕄)),
    bigSep_univ_equiv swap (fun c : Dev nD => (bigSep Finset.univ fun t : Fin 32 => (dutyTok ER (rcvC c (par t.val)) (t.val / 2) () : sProp 𝕄)))]
  exact .rfl

theorem credits_of (c : Dev nD) : (Pipeline.launchCred O₀ c : sProp 𝕄) ⊢ credits (F := F) c := by
  unfold credits
  rw [show (O₀ : Dev nD → CellTallies nD τ sig ℕ)
    = fun d => (∑ s ∈ Finset.Ico 0 32, tallyAt (rcvC (pr d) (par s)) s N) + tallyAt (barC (pr d)) 0 1 from rfl,
    Pipeline.launchCred_add, Pipeline.launchCred_sum, bigSep_steps]
  exact BI.sep_mono (bigSep_mono fun t _ => Pipeline.launchCred_tallyAt (.dma (rcvS (par t.val))) pr pr pr_pr pr_pr t.val N c)
    (Pipeline.launchCred_tallyAt (.reg barS) pr pr pr_pr pr_pr 0 1 c)

/-! ## The run -/

abbrev T₀ (c : Dev nD) : sProp 𝕄 := iprop(StableHlo.held (c : Thread nD τ) bufs (V₀ m c) ∗ rider m c)
abbrev Tₙ (c : Dev nD) : sProp 𝕄 := iprop(StableHlo.held (c : Thread nD τ) bufs (V₂ m c) ∗ semVal (barC c) 0)

/-- What a device gets at the launch that is not the exchange's. -/
def bundle (c : Dev nD) : sProp 𝕄 :=
  iprop(StableHlo.held (c : Thread nD τ) bufs (V₀ m c) ∗ credits (F := F) c ∗ owes (c : Thread nD τ) (O₀ c) ∅ ∗ ∃ r, prngReg c r)

theorem T₀_of (κ : GSem nD τ sig → ℕ) (c : Dev nD) : iprop(records m κ ∗ (share c ∗ bundle m c)) ⊢ T₀ m c := by
  unfold bundle T₀ rider
  iintro ⟨#HR, Hs, Hh, Hc, HO, Hp⟩
  isplitl [Hh]; · iexact Hh
  isplitl [Hs Hc]
  · iapply (dormant_of m κ c)
    isplitr; · iexact HR
    isplitl [Hs] <;> iassumption
  isplitl [Hp]; · iexact Hp
  iexists ∅; iexact HO

theorem core_of (c : Dev nD) :
    iprop(unscopedBufs c (fun b => m ((c : Thread nD τ).loc b)) ∗ unscopedSems0 c ∗ owes (c : Thread nD τ) (O₀ c) ∅ ∗ Pipeline.launchCred O₀ c
      ∗ prngReg c (ρ c) ∗ parked c) ⊢ (iprop(bundle m c ∗ semVal (barC c) 0 ∗ parked c) : sProp 𝕄) := by
  rw [show unscopedBufs c (fun b => m ((c : Thread nD τ).loc b)) = StableHlo.held (c : Thread nD τ) bufs (V₀ m c) from held_unscoped c (V₀ m c),
    unscopedSems_eq]
  unfold bundle
  iintro ⟨Hh, Hv, HO, Hc, Hp, Hu⟩
  isplitl [Hh HO Hc Hp]
  · isplitl [Hh]; · iexact Hh
    isplitl [Hc]; · iapply (credits_of (F := F) c); iexact Hc
    isplitl [HO]; · iexact HO
    iexists (ρ c); iexact Hp
  isplitl [Hv] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => iprop(openTok ER (sndC c) ∗ openTok ER (rcvC c 0) ∗ openTok ER (rcvC c 1))) :=
    Entails.of_eq (by
      rw [bigSep_map, bigSep_univ_prod]
      exact bigSep_congr fun c _ => bigSep_three (fun k : Fin 3 => (openTok ER ((c : Thread nD τ), osem k) : sProp 𝕄)))
  have hsplit : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (iprop((bigSep Finset.univ fun c : Dev nD => bundle m c) ∗ (bigSep Finset.univ fun c : Dev nD => semVal (barC c) 0)
          ∗ BI.own (ER (launchOf barCells ownCells tokens))) : sProp 𝕄) := by
    refine BIBase.Entails.trans (bigSep_mono fun c _ => core_of m ρ c) ?_
    rw [bigSep_sep', bigSep_sep', show bigSep Finset.univ (fun c => (parked c : sProp 𝕄)) = _ from parked_eq]
  have hjoin (κ : GSem nD τ sig → ℕ) : iprop(records m κ ∗ (bigSep Finset.univ fun c : Dev nD => atPos ER (barC c) 0 ∅ 0)
        ∗ (bigSep Finset.univ fun c : Dev nD => iprop(openTok ER (sndC c) ∗ openTok ER (rcvC c 0) ∗ openTok ER (rcvC c 1)))
        ∗ (bigSep Finset.univ fun c : Dev nD => pays (F := F) c) ∗ bigSep Finset.univ fun c : Dev nD => bundle m c)
      ⊢ bigSep Finset.univ (T₀ m) := by
    have h : iprop(records m κ ∗ bigSep Finset.univ fun c : Dev nD => iprop(share c ∗ bundle m c)) ⊢ bigSep Finset.univ (T₀ m) :=
      bigSep_with_persistent (R := records m κ) (Φ := fun c : Dev nD => iprop(share c ∗ bundle m c)) fun c _ => T₀_of m κ c
    rw [bigSep_sep'] at h
    have hs : (iprop((bigSep Finset.univ fun c : Dev nD => atPos ER (barC c) 0 ∅ 0)
        ∗ (bigSep Finset.univ fun c : Dev nD => iprop(openTok ER (sndC c) ∗ openTok ER (rcvC c 0) ∗ openTok ER (rcvC c 1)))
        ∗ bigSep Finset.univ fun c : Dev nD => pays (F := F) c) : sProp 𝕄) = bigSep Finset.univ fun c : Dev nD => share c := by
      unfold share
      rw [← bigSep_sep', ← bigSep_sep']
    rw [← hs] at h
    iintro ⟨#HR, H1, H2, H3, H4⟩
    iapply h
    isplitr; · iexact HR
    isplitr [H4]
    · isplitl [H1]; · iexact H1
      isplitl [H2] <;> iassumption
    iexact H4
  iintro ⟨H, -⟩
  ihave H' := hsplit $$ H
  icases H' with ⟨HB, Hv, Hu⟩
  imod (Rounds.fund_launch ER (Rd (sends m)) cells_disjoint (fun g _ h => h) tokens) $$ [Hv Hu] with ⟨%κ, -, #Hinv, #Hr, Hat, Hopen, Htok⟩
  · isplitl [Hv]
    · iapply hv $$ Hv
    · iexact Hu
  imodintro
  iapply (hjoin κ)
  isplitr
  · unfold records
    isplitr; · iexact Hinv
    iexact Hr
  isplitl [Hat]; · iapply hat $$ Hat
  isplitl [Hopen]; · iapply hopen $$ Hopen
  isplitl [Htok]; · iapply (tokens_dealt (F := F)) $$ Htok
  iexact HB

theorem unscoped_only : ∀ sm : SemLoc sig, sm.isScoped .tc = false → sm = .reg barS := by decide

set_option backward.isDefEq.respectTransparency.types false in
theorem run_main : θ_run defs (onTc (τ := τ) (main (F := F))) (s₀ m ρ)
    (fun r => (∀ c : Dev nD, r.2.mem ((c : Thread nD τ).loc main_v2) = result m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_eq]; iexact HX)
    (T₀ := T₀ m) (Tₙ := Tₙ m)
    (hch := ⟨fun c => .rfl, fun c => kernel_pre m c, fun c => kernel_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (barC c) = 0)
    (hfin := fun c s' => by
      dsimp only [Tₙ]; rw [held_bufs]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_ne m c main_arg0 (by decide)] at h0
        rw [V₂_ne m c main_arg1 (by decide)] at h1
        rw [V₂_result] at h2
        exact ⟨h2, h0.trans (V_main_arg0 m c), h1.trans (V_main_arg1 m c)⟩,
      sem_eq_zero hs fun c sm hsm => by
        obtain rfl := unscoped_only sm hsm
        exact (h c).2⟩)

end Cert.OProj

end
-- ==== Proof.Value.lean ====
/-
  The values, over the extended reals: what each device's result holds, index by index, and that it is the device's block
  of the one product the reference computes.

  Device c of mesh coordinates (c / 2, c % 2) has rows 4096·(c % 2) … of the weights and the matching columns of the
  activations. Its product is half of the contraction; the partner's, received block by block, is the other half.
-/
module

public import proofs.«01_k».proof.Proof.Run
public import proofs.«01_k».proof.Proof.Gen.ReferenceIdeal
public import Idealize.ShloMosaic.Lib.MatmulPlain
public import Idealize.ShloMosaic.Lib.Layout
public import Idealize.ShloMosaic.Lib.Pipeline.Value

@[expose] public section

noncomputable section

namespace Cert.OProj

open Idealize.ShloMosaic
open Idealize.ShloMosaic.TcCoe
open Idealize.ShloMosaic.ValueIdx
open Idealize.SL.Sem
open Cert.KernelIdeal Cert.KernelIdeal.Gen
open scoped BigOperators

/-! ## The arrays the kernel reads -/

section Reads

variable {F : FTy → Type} [FloatOps F] (m : (ℓ : Loc nD τ sig) → Buf (Elt F) ℓ)

/-- The activations as the kernel finds them: the argument, heads and head columns merged. -/
abbrev acts (c : Dev nD) : S2048x4096.Idx → Elt F .f32 := V m c main_v1
/-- The weights as the kernel finds them. -/
abbrev wts (c : Dev nD) : S4096x8192.Idx → Elt F .f32 := V m c main_arg1

theorem acts_eq (c : Dev nD) : acts m c = shapeCast S2048x4096 (m ((c : Thread nD τ).loc main_arg0)) shapeCasts_S1x2048x32x128_S2048x4096 := rfl

theorem acts_apply (c : Dev nD) (r : Fin 2048) (k : Fin 4096) :
    acts m c (ix2 r k) = m ((c : Thread nD τ).loc main_arg0)
      (ix4 0 r ⟨k.val / 128, by have := k.isLt; omega⟩ ⟨k.val % 128, Nat.mod_lt _ (by decide)⟩ : S1x2048x32x128.Idx) := by
  rw [acts_eq]
  refine shapeCast_apply _ _ _ _ ?_
  refine (Shape.rowMajor_val_four (d := ![1, 2048, 32, 128])
    (ix4 0 r ⟨k.val / 128, by have := k.isLt; omega⟩ ⟨k.val % 128, Nat.mod_lt _ (by decide)⟩)).trans ?_
  rw [Shape.rowMajor_val_two]
  show ((0 * 2048 + r.val) * 32 + k.val / 128) * 128 + k.val % 128 = r.val * 4096 + k.val
  have := Nat.div_add_mod k.val 128
  omega

/-- The activations' block is all of them. -/
theorem iblk_acts (c : Dev nD) (t : Fin cfg0.N) : (iblk m c 0 t : S2048x4096.Idx → Elt F .f32) = acts m c := by
  funext y
  unfold iblk
  rw [View.read_apply]
  refine congrArg (acts m c) (funext fun a => Fin.ext ?_)
  exact Pipeline.Window.rect_emb_val_of_index_zero win0_0 t a (by match a with | ⟨0, _⟩ => rfl | ⟨1, _⟩ => rfl) y

theorem index_w : ∀ t : Fin cfg0.N, win0_1.index t 0 = 0 ∧ win0_1.index t 1 = t.val := by decide
theorem index_out : ∀ t : Fin cfg0.N, win0_2.index t 0 = 0 ∧ win0_2.index t 1 = 0 ∧ win0_2.index t 2 = t.val := by decide

/-- Column `n` of block `t`. -/
def col (t : Fin cfg0.N) (n : Fin 256) : Fin 8192 := ⟨256 * t.val + n.val, by have := pt_lt t; have := n.isLt; omega⟩

theorem iblk_wts (c : Dev nD) (t : Fin cfg0.N) (k : Fin 4096) (n : Fin 256) :
    (iblk m c 1 t : S4096x256.Idx → Elt F .f32) (ix2 k n) = wts m c (ix2 k (col t n)) := by
  unfold iblk
  rw [View.read_apply]
  refine congrArg (wts m c) (funext fun a => Fin.ext ?_)
  match a with
  | ⟨0, _⟩ => exact Pipeline.Window.rect_emb_val_of_index_zero win0_1 t 0 (index_w t).1 (ix2 k n)
  | ⟨1, _⟩ =>
    refine (Pipeline.Window.rect_emb_val win0_1 t (ix2 k n) 1).trans ?_
    rw [(index_w t).2]
    show t.val * 256 + n.val = 256 * t.val + n.val
    omega

/-- Where block `t` of the result lies. -/
theorem blk_out (t : Fin cfg0.N) (r : Fin 1024) (n : Fin 256) :
    ((cfg0.win 2).blk t).view.emb (ix3 0 r n : S1x1024x256.Idx) = (ix3 0 r (col t n) : S1x1024x8192.Idx) := by
  refine funext fun a => Fin.ext ?_
  match a with
  | ⟨0, _⟩ => exact Pipeline.Window.rect_emb_val_of_index_zero win0_2 t 0 (index_out t).1 (ix3 0 r n)
  | ⟨1, _⟩ => exact Pipeline.Window.rect_emb_val_of_index_zero win0_2 t 1 (index_out t).2.1 (ix3 0 r n)
  | ⟨2, _⟩ =>
    refine (Pipeline.Window.rect_emb_val win0_2 t (ix3 0 r n) 2).trans ?_
    rw [(index_out t).2.2]
    show t.val * 256 + n.val = 256 * t.val + n.val
    omega

/-! ## The rows sent and kept -/

theorem off_sent : ∀ c : Dev nD, k0_off1 c = ![1024 * (1 - c.val % 2), 0] := by decide
theorem off_kept : ∀ c : Dev nD, k0_off4 c = ![1024 * (c.val % 2), 0] := by decide

/-- Row `r` of half `h` of the rows. -/
def row (h : ℕ) (hh : h < 2) (r : Fin 1024) : Fin 2048 := ⟨1024 * h + r.val, by have := r.isLt; omega⟩

theorem sent_apply (c : Dev nD) (A : S2048x4096.Idx → Elt F .f32) (B : S4096x256.Idx → Elt F .f32) (r : Fin 1024) (n : Fin 256) :
    sentOf c A B (ix2 r n) = k0_pay2 A B (ix2 (row (1 - c.val % 2) (by omega) r) n) := by
  unfold sentOf k0_pay3
  rw [shapeCast_self]
  refine congrArg (k0_pay2 A B) (funext fun a => Fin.ext ?_)
  match a with
  | ⟨0, _⟩ =>
    show k0_off1 c 0 + 1 * r.val = 1024 * (1 - c.val % 2) + r.val
    rw [off_sent]
    show 1024 * (1 - c.val % 2) + 1 * r.val = _
    omega
  | ⟨1, _⟩ =>
    show k0_off1 c 1 + 1 * n.val = n.val
    rw [off_sent]
    show 0 + 1 * n.val = _
    omega

theorem kept_apply (c : Dev nD) (A : S2048x4096.Idx → Elt F .f32) (B : S4096x256.Idx → Elt F .f32) (r : Fin 1024) (n : Fin 256) :
    keptOf c A B (ix2 r n) = k0_pay2 A B (ix2 (row (c.val % 2) (Nat.mod_lt _ (by decide)) r) n) := by
  unfold keptOf
  refine congrArg (k0_pay2 A B) (funext fun a => Fin.ext ?_)
  match a with
  | ⟨0, _⟩ =>
    show k0_off4 c 0 + 1 * r.val = 1024 * (c.val % 2) + r.val
    rw [off_kept]
    show 1024 * (c.val % 2) + 1 * r.val = _
    omega
  | ⟨1, _⟩ =>
    show k0_off4 c 1 + 1 * n.val = n.val
    rw [off_kept]
    show 0 + 1 * n.val = _
    omega

theorem out_apply (c : Dev nD) (A : S2048x4096.Idx → Elt F .f32) (B : S4096x256.Idx → Elt F .f32) (Y : S1024x256.Idx → Elt F .f32)
    (r : Fin 1024) (n : Fin 256) :
    outOf c A B Y (ix3 0 r n) = FloatOps.addf (keptOf c A B (ix2 r n)) (Y (ix2 r n)) := by
  unfold outOf
  refine (shapeCast_apply (addf (keptOf c A B : FVec F S1024x256 .f32) Y) _ (ix3 0 r n) (ix2 r n) ?_).trans rfl
  rw [Shape.rowMajor_val_three, Shape.rowMajor_val_two]
  show r.val * 256 + n.val = (0 * 1024 + r.val) * 256 + n.val
  omega

end Reads

/-! ## The result -/

variable (m : (ℓ : Loc nD τ sig) → Buf (Elt Ideal) ℓ)

theorem product_apply (A : S2048x4096.Idx → EReal) (B : S4096x256.Idx → EReal) (r : Fin 2048) (n : Fin 256) :
    (k0_pay2 (F := Ideal) A B (ix2 r n) : EReal) = ∑ k : Fin 4096, A (ix2 r k) * B (ix2 k n) := by
  unfold k0_pay2
  rw [shapeCast_self, shapeCast_self, shapeCast_self]
  refine (Ideal.matmul_plain_apply none A B (constant S2048x256 .f32 0x00000000#32) r n).trans ?_
  show Ideal.ofBits .f32 0x00000000#32 + _ = _
  rw [Ideal.ofBits_zero_f32, zero_add]

/-- Device `c`'s half of the contraction at row `R` and column `j`. -/
def half (c : Dev nD) (R : Fin 2048) (j : Fin 8192) : EReal := ∑ k : Fin 4096, (acts m c (ix2 R k) : EReal) * wts m c (ix2 k j)

theorem product_half (c : Dev nD) (t : Fin cfg0.N) (R : Fin 2048) (n : Fin 256) :
    (k0_pay2 (F := Ideal) (iblk m c 0 t) (iblk m c 1 t) (ix2 R n) : EReal) = half m c R (col t n) := by
  rw [product_apply, iblk_acts]
  exact Finset.sum_congr rfl fun k _ => congrArg (_ * ·) (iblk_wts m c t k n)

theorem pr_half (c : Dev nD) : 1 - (pr c).val % 2 = c.val % 2 := by revert c; decide

/-- What device `c` ends with at row `r` of its half and column `j`. -/
def total (c : Dev nD) (r : Fin 1024) (j : Fin 8192) : EReal :=
  half m c (row (c.val % 2) (Nat.mod_lt _ (by decide)) r) j + half m (pr c) (row (c.val % 2) (Nat.mod_lt _ (by decide)) r) j

theorem block_apply (c : Dev nD) (t : Fin cfg0.N) (r : Fin 1024) (n : Fin 256) :
    (block m c t (ix3 0 r n) : EReal) = total m c r (col t n) := by
  unfold block
  rw [out_apply, kept_apply]
  unfold sends
  rw [pt_val, sent_apply]
  refine congrArg₂ (fun a b : EReal => a + b) (product_half m c t _ n) ((product_half m (pr c) t _ n).trans ?_)
  refine congrArg (fun R => half m (pr c) R (col t n)) (Fin.ext ?_)
  show 1024 * (1 - (pr c).val % 2) + r.val = 1024 * (c.val % 2) + r.val
  rw [pr_half]

/-- The whole result of device `c`. -/
def whole_result (c : Dev nD) : S1x1024x8192.Idx → Elt Ideal .f32 := fun i => total m c (i 1) (i 2)

theorem result_eq (c : Dev nD) : result m c = whole_result m c := by
  unfold result
  refine (dat m c).arrAt_eq_of_cover 2 (whole_result m c) (fun t _ => ?_) (fun i => ?_)
  · funext y
    rw [View.read_apply]
    obtain ⟨r, n, rfl⟩ : ∃ r n, y = (ix3 0 r n : S1x1024x256.Idx) :=
      ⟨y 1, y 2, (eq_ix3 (n0 := 1) (n1 := 1024) (n2 := 256) y).trans (congrArg (fun z : Fin 1 => (ix3 z (y 1) (y 2) : S1x1024x256.Idx)) (Subsingleton.elim (α := Fin 1) _ _))⟩
    refine (block_apply m c t r n).trans ?_
    show _ = whole_result m c (((cfg0.win 2).blk t).view.emb (ix3 0 r n : S1x1024x256.Idx))
    rw [blk_out]
    rfl
  · have hj : (i 2).val < 8192 := (i 2).isLt
    let t : Fin cfg0.N := ⟨(i 2).val / 256, lt_of_lt_of_eq (by omega : (i 2).val / 256 < 32) N_0.symm⟩
    refine ⟨t, flush0_2 t, ?_⟩
    have e : i = ((cfg0.win 2).blk t).view.emb (ix3 0 (i 1) ⟨(i 2).val % 256, Nat.mod_lt _ (by decide)⟩ : S1x1024x256.Idx) := by
      refine Eq.trans ?_ (blk_out t (i 1) ⟨(i 2).val % 256, Nat.mod_lt _ (by decide)⟩).symm
      refine funext fun a => Fin.ext ?_
      match a with
      | ⟨0, _⟩ => exact congrArg Fin.val (Subsingleton.elim (α := Fin 1) (i 0) 0)
      | ⟨1, _⟩ => rfl
      | ⟨2, _⟩ => exact (Nat.div_add_mod (i 2).val 256).symm
    rw [e]
    exact ((cfg0.win 2).blk t).view.emb_mem_set _

/-! ## The reference -/

section Reference

variable (A : Cert.ReferenceIdeal.S1x2048x64x128.Idx → EReal) (B : Cert.ReferenceIdeal.S8192x8192.Idx → EReal)

/-- One product of the contraction, at position `k` of the merged head columns. -/
def term (R : Fin 2048) (j : Fin 8192) (k : ℕ) : EReal :=
  A (ix4 0 R ⟨k / 128 % 64, Nat.mod_lt _ (by decide)⟩ ⟨k % 128, Nat.mod_lt _ (by decide)⟩) * B (ix2 ⟨k % 8192, Nat.mod_lt _ (by decide)⟩ j)

/-- The reference's result. -/
def reference : Cert.ReferenceIdeal.S1x2048x8192.Idx → EReal :=
  Host.dotGeneral (F := Ideal) (φ₁ := .f32) (φ₂ := .f32) Cert.ReferenceIdeal.dot_S1x2048x8192_S8192x8192_S1x2048x8192_2_0_01_1_n_n none
    (shapeCast _ A Cert.ReferenceIdeal.Gen.shapeCasts_S1x2048x64x128_S1x2048x8192) B

theorem reference_apply (R : Fin 2048) (j : Fin 8192) : reference A B (ix3 0 R j) = ∑ k : Fin 8192, term A B R j k.val := by
  unfold reference
  let D := Cert.ReferenceIdeal.dot_S1x2048x8192_S8192x8192_S1x2048x8192_2_0_01_1_n_n
  refine (Ideal.dotGeneral_apply D none _ _ B (ix3 0 R j)).trans ?_
  rw [← Equiv.sum_comp (contrEquiv1 D 8192 rfl rfl).symm]
  refine Finset.sum_congr rfl fun k _ => ?_
  have hk := contrEquiv1_symm_val D 8192 rfl rfl k
  have el : D.lhsIdx (ix3 0 R j) ((contrEquiv1 D 8192 rfl rfl).symm k) = ix3 0 R k := by
    funext a; apply Fin.ext
    match a with
    | ⟨0, _⟩ => rfl
    | ⟨1, _⟩ => rfl
    | ⟨2, _⟩ => exact hk
  have er : D.rhsIdx (ix3 0 R j) ((contrEquiv1 D 8192 rfl rfl).symm k) = ix2 k j := by
    funext a; apply Fin.ext
    match a with
    | ⟨0, _⟩ => exact hk
    | ⟨1, _⟩ => rfl
  rw [el, er]
  have hlt := k.isLt
  refine congrArg₂ (fun a b : EReal => a * b) (shapeCast_apply A _ _ _ ?_) (congrArg (fun q => B (ix2 q j)) (Fin.ext (Nat.mod_eq_of_lt hlt).symm))
  rw [Shape.rowMajor_val_four, Shape.rowMajor_val_three]
  show ((0 * 2048 + R.val) * 64 + k.val / 128 % 64) * 128 + k.val % 128 = (0 * 2048 + R.val) * 8192 + k.val
  omega

/-- The contraction in its two halves. -/
theorem reference_halves (R : Fin 2048) (j : Fin 8192) :
    reference A B (ix3 0 R j) = (∑ k : Fin 4096, term A B R j k.val) + ∑ k : Fin 4096, term A B R j (4096 + k.val) := by
  rw [reference_apply, Finset.sum_range (fun k => term A B R j k) |>.symm, Finset.sum_range (fun k => term A B R j k) |>.symm,
    Finset.sum_range (fun k => term A B R j (4096 + k)) |>.symm]
  exact Finset.sum_range_add (fun k => term A B R j k) 4096 4096

end Reference

/-! ## Device c's result is its block of the reference's -/

section Blocks

variable (A : Cert.ReferenceIdeal.S1x2048x64x128.Idx → EReal) (B : Cert.ReferenceIdeal.S8192x8192.Idx → EReal)

theorem lin_y : ∀ c : Dev nD, Layout.meshLin [2, 2] c.val [1] = c.val % 2 := by decide

theorem half_eq
    (hA : ∀ c : Dev nD, m ((c : Thread nD τ).loc main_arg0)
      = Layout.blockN ⟨4, ![1, 2048, 32, 128]⟩ ⟨4, ![1, 2048, 64, 128]⟩ (Layout.meshBlock [2, 2] ![[], [], [1], []] c) A)
    (hB : ∀ c : Dev nD, m ((c : Thread nD τ).loc main_arg1)
      = Layout.blockN ⟨2, ![4096, 8192]⟩ ⟨2, ![8192, 8192]⟩ (Layout.meshBlock [2, 2] ![[1], []] c) B)
    (c : Dev nD) (R : Fin 2048) (j : Fin 8192) : half m c R j = ∑ k : Fin 4096, term A B R j (4096 * (c.val % 2) + k.val) := by
  unfold half term
  refine Finset.sum_congr rfl fun k _ => ?_
  have hy : c.val % 2 < 2 := Nat.mod_lt _ (by decide)
  have hk := k.isLt
  refine congrArg₂ (fun a b : EReal => a * b) ?_ ?_
  · rw [acts_apply, hA]
    refine congrArg A (funext fun a => Fin.ext ?_)
    match a with
    | ⟨0, _⟩ => rfl
    | ⟨1, _⟩ =>
      show 0 * 2048 + R.val = R.val
      omega
    | ⟨2, _⟩ =>
      show Layout.meshLin [2, 2] c.val [1] * 32 + k.val / 128 = (4096 * (c.val % 2) + k.val) / 128 % 64
      rw [lin_y]; omega
    | ⟨3, _⟩ =>
      show 0 * 128 + k.val % 128 = (4096 * (c.val % 2) + k.val) % 128
      omega
  · rw [show wts m c = m ((c : Thread nD τ).loc main_arg1) from V_main_arg1 m c, hB]
    refine congrArg B (funext fun a => Fin.ext ?_)
    match a with
    | ⟨0, _⟩ =>
      show Layout.meshLin [2, 2] c.val [1] * 4096 + k.val = (4096 * (c.val % 2) + k.val) % 8192
      rw [lin_y]; omega
    | ⟨1, _⟩ =>
      show 0 * 8192 + j.val = j.val
      omega

theorem pr_mod : ∀ c : Dev nD, (pr c).val % 2 = 1 - c.val % 2 := by decide

theorem total_eq
    (hA : ∀ c : Dev nD, m ((c : Thread nD τ).loc main_arg0)
      = Layout.blockN ⟨4, ![1, 2048, 32, 128]⟩ ⟨4, ![1, 2048, 64, 128]⟩ (Layout.meshBlock [2, 2] ![[], [], [1], []] c) A)
    (hB : ∀ c : Dev nD, m ((c : Thread nD τ).loc main_arg1)
      = Layout.blockN ⟨2, ![4096, 8192]⟩ ⟨2, ![8192, 8192]⟩ (Layout.meshBlock [2, 2] ![[1], []] c) B)
    (c : Dev nD) (r : Fin 1024) (j : Fin 8192) :
    total m c r j = reference A B (ix3 0 (row (c.val % 2) (Nat.mod_lt _ (by decide)) r) j) := by
  unfold total
  rw [reference_halves, half_eq m A B hA hB, half_eq m A B hA hB, pr_mod]
  rcases Nat.mod_two_eq_zero_or_one c.val with h | h
  · simp only [h, Nat.mul_zero, Nat.zero_add, Nat.sub_zero, Nat.mul_one]
  · simp only [h, Nat.mul_zero, Nat.zero_add, Nat.sub_self, Nat.mul_one]
    exact add_comm _ _

theorem result_block
    (hA : ∀ c : Dev nD, m ((c : Thread nD τ).loc main_arg0)
      = Layout.blockN ⟨4, ![1, 2048, 32, 128]⟩ ⟨4, ![1, 2048, 64, 128]⟩ (Layout.meshBlock [2, 2] ![[], [], [1], []] c) A)
    (hB : ∀ c : Dev nD, m ((c : Thread nD τ).loc main_arg1)
      = Layout.blockN ⟨2, ![4096, 8192]⟩ ⟨2, ![8192, 8192]⟩ (Layout.meshBlock [2, 2] ![[1], []] c) B)
    (c : Dev nD) :
    result m c = Layout.blockN ⟨3, ![1, 1024, 8192]⟩ ⟨3, ![1, 2048, 8192]⟩ (Layout.meshBlock [2, 2] ![[], [1], []] c) (reference A B) := by
  rw [result_eq]
  funext i
  have hy : c.val % 2 < 2 := Nat.mod_lt _ (by decide)
  have e : (Layout.blockN ⟨3, ![1, 1024, 8192]⟩ ⟨3, ![1, 2048, 8192]⟩ (Layout.meshBlock [2, 2] ![[], [1], []] c) (reference A B)) i
      = reference A B (ix3 0 (row (c.val % 2) hy (i 1)) (i 2)) := by
    refine congrArg (reference A B) (funext fun a => Fin.ext ?_)
    match a with
    | ⟨0, _⟩ =>
      show 0 * 1 + (i 0).val = 0
      have : (i 0).val < 1 := (i 0).isLt
      omega
    | ⟨1, _⟩ =>
      show Layout.meshLin [2, 2] c.val [1] * 1024 + (i 1).val = 1024 * (c.val % 2) + (i 1).val
      rw [lin_y]; omega
    | ⟨2, _⟩ =>
      show 0 * 8192 + (i 2).val = (i 2).val
      omega
  exact (total_eq m A B hA hB c (i 1) (i 2)).trans e.symm

end Blocks

end Cert.OProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.Kernel

/-- The run, with what it says of the arguments and the counters alone. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
        ∧ r.2.sem = fun _ => 0) :=
  (θ_run Cert.KernelIdeal.defs _ _).mono (fun _ h => ⟨fun c => (h.1 c).2, h.2⟩) (Cert.OProj.run_main m ρ)

/-- The two programs are one text, so their kernels' body tables agree: label by label, at the one label there is. -/
theorem bodies_eq : Cert.Kernel.defs₀ (F := Bits) = Cert.KernelIdeal.defs₀ (F := Bits) := by
  refine congrArg Defs.onTc (funext fun l => funext fun a => ?_)
  match l, a with
  | 0, (_, _) => rfl

/-- And so do the tables with the call's pipeline added. -/
theorem tables_eq : Cert.Kernel.defs (F := Bits) = Cert.KernelIdeal.defs (F := Bits) :=
  congrArg (Pipeline.defs (Cert.KernelIdeal.pcfgs (F := Bits))) bodies_eq

/-- The program's frame is the run at the words. -/
theorem frame_kernel : Cert.quiescent_Kernel := by
  intro m ρ _
  have h := frame_run (F := Bits) m ρ
  rw [← tables_eq] at h
  exact h

theorem frame_ideal : Cert.quiescent_KernelIdeal := fun m ρ _ => frame_run (F := Ideal) m ρ

/-- The reference is host operations on one device; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the one product; every device ends with its block of it. -/
theorem algebraic : Cert.algebraic_KernelIdeal_ReferenceIdeal := fun m ρ m' ρ' _ hm =>
  ⟨Cert.OProj.reference (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono (fun _ h c => ⟨(h.1 c).1.trans
        (Cert.OProj.result_block m _ _ (fun d => (hm d).1) (fun d => (hm d).2) c), (h.1 c).2⟩) (Cert.OProj.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
